-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8192 : Shape := ⟨2, ![1024, 8192]⟩
abbrev S8192x4096 : Shape := ⟨2, ![8192, 4096]⟩
abbrev S_ : Shape := ⟨0, ![]⟩
abbrev S4 : Shape := ⟨1, ![4]⟩
abbrev S1 : Shape := ⟨1, ![1]⟩
abbrev S2 : Shape := ⟨1, ![2]⟩
abbrev S8 : Shape := ⟨1, ![8]⟩
abbrev S8192x512 : Shape := ⟨2, ![8192, 512]⟩
abbrev S2x1024x2048 : Shape := ⟨3, ![2, 1024, 2048]⟩
abbrev S3x1024x1024 : Shape := ⟨3, ![3, 1024, 1024]⟩
abbrev S3x1024x2048 : Shape := ⟨3, ![3, 1024, 2048]⟩
abbrev S3 : Shape := ⟨1, ![3]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 81
  | .vmem => 3
  | .smem => 3
  | _ => 0

abbrev bufTy : (tb : Table) → Fin (tcTables nBuf tb) → BufTy
  | .hbm, ⟨0, _⟩ => ⟨S1024x8192, .f32⟩
  | .hbm, ⟨1, _⟩ => ⟨S8192x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i1⟩
  | .hbm, ⟨34, _⟩ => ⟨S_, .i1⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4, .i32⟩
  | .hbm, ⟨41, _⟩ => ⟨S4, .i32⟩
  | .hbm, ⟨42, _⟩ => ⟨S4, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S_, .i32⟩
  | .hbm, ⟨52, _⟩ => ⟨S4, .i32⟩
  | .hbm, ⟨53, _⟩ => ⟨S4, .i1⟩
  | .hbm, ⟨54, _⟩ => ⟨S_, .i32⟩
  | .hbm, ⟨55, _⟩ => ⟨S4, .i32⟩
  | .hbm, ⟨56, _⟩ => ⟨S4, .i1⟩
  | .hbm, ⟨57, _⟩ => ⟨S_, .i32⟩
  | .hbm, ⟨58, _⟩ => ⟨S_, .i1⟩
  | .hbm, ⟨59, _⟩ => ⟨S4, .i1⟩
  | .hbm, ⟨60, _⟩ => ⟨S4, .i1⟩
  | .hbm, ⟨61, _⟩ => ⟨S4, .i1⟩
  | .hbm, ⟨62, _⟩ => ⟨S4, .i32⟩
  | .hbm, ⟨63, _⟩ => ⟨S4, .i32⟩
  | .hbm, ⟨64, _⟩ => ⟨S4, .i32⟩
  | .hbm, ⟨65, _⟩ => ⟨S1, .i32⟩
  | .hbm, ⟨66, _⟩ => ⟨S1, .i32⟩
  | .hbm, ⟨67, _⟩ => ⟨S2, .i32⟩
  | .hbm, ⟨68, _⟩ => ⟨S_, .i32⟩
  | .hbm, ⟨69, _⟩ => ⟨S2, .i32⟩
  | .hbm, ⟨70, _⟩ => ⟨S_, .i32⟩
  | .hbm, ⟨71, _⟩ => ⟨S_, .i32⟩
  | .hbm, ⟨72, _⟩ => ⟨S4, .i32⟩
  | .hbm, ⟨73, _⟩ => ⟨S4, .i32⟩
  | .hbm, ⟨74, _⟩ => ⟨S_, .i32⟩
  | .hbm, ⟨75, _⟩ => ⟨S_, .i32⟩
  | .hbm, ⟨76, _⟩ => ⟨S4, .i32⟩
  | .hbm, ⟨77, _⟩ => ⟨S4, .i32⟩
  | .hbm, ⟨78, _⟩ => ⟨S_, .i32⟩
  | .hbm, ⟨79, _⟩ => ⟨S4, .i32⟩
  | .hbm, ⟨80, _⟩ => ⟨S8192x512, .f32⟩
  | .local _ .vmem, ⟨0, _⟩ => ⟨S2x1024x2048, .f32⟩
  | .local _ .vmem, ⟨1, _⟩ => ⟨S3x1024x1024, .f32⟩
  | .local _ .vmem, ⟨2, _⟩ => ⟨S3x1024x2048, .f32⟩
  | .local _ .smem, ⟨0, _⟩ => ⟨S8, .i32⟩
  | .local _ .smem, ⟨1, _⟩ => ⟨S4, .i32⟩
  | .local _ .smem, ⟨2, _⟩ => ⟨S2, .i32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v5 : Ref sig .tc := ⟨.hbm, 20, rfl⟩
abbrev main_c_2 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_c_1 : Ref sig .tc := ⟨.hbm, 28, rfl⟩
abbrev main_call1_v4 : Ref sig .tc := ⟨.hbm, 29, rfl⟩
abbrev main_call1_c_2 : Ref sig .tc := ⟨.hbm, 30, rfl⟩
abbrev main_call1_v5 : Ref sig .tc := ⟨.hbm, 31, rfl⟩
abbrev main_call1_c_3 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_v6 : Ref sig .tc := ⟨.hbm, 37, rfl⟩
abbrev main_c_3 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c_4 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_c_5 : Ref sig .tc := ⟨.hbm, 68, rfl⟩
abbrev main_v15 : Ref sig .tc := ⟨.hbm, 69, rfl⟩
abbrev main_c_6 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_7 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_c_8 : Ref sig .tc := ⟨.hbm, 78, rfl⟩
abbrev main_v24 : Ref sig .tc := ⟨.hbm, 79, rfl⟩
abbrev main_v26 : Ref sig .tc := ⟨.hbm, 80, rfl⟩
abbrev main_v23 : Ref sig .tc := ⟨.smem, 0, rfl⟩
abbrev main_v25 : Ref sig .tc := ⟨.smem, 1, rfl⟩
abbrev main_v16 : Ref sig .tc := ⟨.smem, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := ⟨2, ![2, 8], ![false, false]⟩

abbrev pre0 : Pipeline.Prefetch sig := ⟨3, ![main_v23.idx, main_v25.idx, main_v16.idx], fun | 0 => main_v23.names | 1 => main_v25.names | 2 => main_v16.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c0_i32 : BitVec 32 := 0#32
  let v5 : BitVec 1 := Scalar.cmpi .eq v4 c0_i32
  let v6 : BitVec 32 := Scalar.extui v5
  let c0_i32_1 : BitVec 32 := 0#32
  let v7 : BitVec 1 := Scalar.cmpi .ne v6 c0_i32_1
  v7

def k0_dev1 : Nat :=
  let c0_i32_24 : BitVec 32 := 0#32
  let c0_i32_22 : BitVec 32 := 0#32
  let c1_i32_23 : BitVec 32 := 1#32
  let v45 : BitVec 32 := Scalar.muli c0_i32_22 c1_i32_23
  let v46 : BitVec 32 := Scalar.addi c0_i32_24 v45
  v46.toNat
def k0_dev2 : Nat :=
  let c0_i32_28 : BitVec 32 := 0#32
  let c1_i32_26 : BitVec 32 := 1#32
  let c1_i32_27 : BitVec 32 := 1#32
  let v47 : BitVec 32 := Scalar.muli c1_i32_26 c1_i32_27
  let v48 : BitVec 32 := Scalar.addi c0_i32_28 v47
  v48.toNat
def k0_dev3 : Nat :=
  let c0_i32_32 : BitVec 32 := 0#32
  let c2_i32_30 : BitVec 32 := 2#32
  let c1_i32_31 : BitVec 32 := 1#32
  let v49 : BitVec 32 := Scalar.muli c2_i32_30 c1_i32_31
  let v50 : BitVec 32 := Scalar.addi c0_i32_32 v49
  v50.toNat
def k0_dev4 : Nat :=
  let c0_i32_36 : BitVec 32 := 0#32
  let c3_i32_34 : BitVec 32 := 3#32
  let c1_i32_35 : BitVec 32 := 1#32
  let v51 : BitVec 32 := Scalar.muli c3_i32_34 c1_i32_35
  let v52 : BitVec 32 := Scalar.addi c0_i32_36 v51
  v52.toNat
def k0_dev5 : Nat :=
  let c0_i32_40 : BitVec 32 := 0#32
  let c4_i32_38 : BitVec 32 := 4#32
  let c1_i32_39 : BitVec 32 := 1#32
  let v53 : BitVec 32 := Scalar.muli c4_i32_38 c1_i32_39
  let v54 : BitVec 32 := Scalar.addi c0_i32_40 v53
  v54.toNat
def k0_dev6 : Nat :=
  let c0_i32_43 : BitVec 32 := 0#32
  let c5_i32 : BitVec 32 := 5#32
  let c1_i32_42 : BitVec 32 := 1#32
  let v55 : BitVec 32 := Scalar.muli c5_i32 c1_i32_42
  let v56 : BitVec 32 := Scalar.addi c0_i32_43 v55
  v56.toNat
def k0_dev7 : Nat :=
  let c0_i32_46 : BitVec 32 := 0#32
  let c6_i32 : BitVec 32 := 6#32
  let c1_i32_45 : BitVec 32 := 1#32
  let v57 : BitVec 32 := Scalar.muli c6_i32 c1_i32_45
  let v58 : BitVec 32 := Scalar.addi c0_i32_46 v57
  v58.toNat
def k0_dev8 : Nat :=
  let c0_i32_49 : BitVec 32 := 0#32
  let c7_i32 : BitVec 32 := 7#32
  let c1_i32_48 : BitVec 32 := 1#32
  let v59 : BitVec 32 := Scalar.muli c7_i32 c1_i32_48
  let v60 : BitVec 32 := Scalar.addi c0_i32_49 v59
  v60.toNat
def k0_off1 : Fin 1 → Nat :=
  let c0_i32_53 : BitVec 32 := 0#32
  let c3_i32_54 : BitVec 32 := 3#32
  let v62 : BitVec 32 := Scalar.remsi c0_i32_53 c3_i32_54
  ![v62.toNat]
def k0_off2 : Fin 3 → Nat :=
  let c0_i32_53 : BitVec 32 := 0#32
  let c3_i32_54 : BitVec 32 := 3#32
  let v62 : BitVec 32 := Scalar.remsi c0_i32_53 c3_i32_54
  let c0_i32_55 : BitVec 32 := 0#32
  let c0_i32_56 : BitVec 32 := 0#32
  ![v62.toNat, 0, 0]
def k0_off3 : Fin 2 → Nat :=
  let c0_i32_57 : BitVec 32 := 0#32
  let c0_i32_51 : BitVec 32 := 0#32
  let c8_i32_52 : BitVec 32 := 8#32
  let v61 : BitVec 32 := Scalar.remsi c0_i32_51 c8_i32_52
  let c1024_i32 : BitVec 32 := 1024#32
  let v63 : BitVec 32 := Scalar.muli v61 c1024_i32
  ![0, v63.toNat]
def k0_off4 : Fin 1 → Nat :=
  let c0_i32_58 : BitVec 32 := 0#32
  let c8_i32_59 : BitVec 32 := 8#32
  let v69 : BitVec 32 := Scalar.divsi c0_i32_58 c8_i32_59
  let v73 : Index := Scalar.indexCast v69
  ![v73.toNat]
def k0_mult1 (v74 : BitVec 32) : BitVec 32 :=
  v74

def k0_off5 (c0_i32_62 : BitVec 32) : Fin 1 → Nat :=
  let c3_i32_63 : BitVec 32 := 3#32
  let v71 : BitVec 32 := Scalar.remsi c0_i32_62 c3_i32_63
  ![v71.toNat]
def k0_off6 : Fin 3 → Nat :=
  let c0_i32_62 : BitVec 32 := 0#32
  let c3_i32_63 : BitVec 32 := 3#32
  let v71 : BitVec 32 := Scalar.remsi c0_i32_62 c3_i32_63
  let c0_i32_65 : BitVec 32 := 0#32
  let c0_i32_66 : BitVec 32 := 0#32
  ![v71.toNat, 0, 0]
def k0_off7 (v74 : BitVec 32) : Fin 2 → Nat :=
  let c0_i32_60 : BitVec 32 := 0#32
  let c8_i32_61 : BitVec 32 := 8#32
  let v70 : BitVec 32 := Scalar.remsi c0_i32_60 c8_i32_61
  let c1024_i32_64 : BitVec 32 := 1024#32
  let v72 : BitVec 32 := Scalar.muli v70 c1024_i32_64
  let v75 : BitVec 32 := v74
  ![v72.toNat, v75.toNat]

def k0_chk1 (i : grid0.Coords) (v74 : BitVec 32) : Prop :=
  (∀ (k0_h1 : k0_cond1 i = 1#1), 2048 ∣ (k0_mult1 v74).toNat) ∧
  (∀ (k0_h1 : k0_cond1 i = 1#1), ∀ a, (k0_off7 v74) a + S1024x2048.size a ≤ S8192x4096.size a)
theorem k0_mult1_dvd : ∀ (i : grid0.Coords) (v74 : BitVec 32) (k0_hw1 : k0_chk1 i v74), ∀ (k0_h1 : k0_cond1 i = 1#1), 2048 ∣ (k0_mult1 v74).toNat := fun i v74 k0_hw1 k0_h1 => k0_hw1.1 k0_h1
theorem k0_off7_inb : ∀ (i : grid0.Coords) (v74 : BitVec 32) (k0_hw1 : k0_chk1 i v74), ∀ (k0_h1 : k0_cond1 i = 1#1), ∀ a, (k0_off7 v74) a + S1024x2048.size a ≤ S8192x4096.size a := fun i v74 k0_hw1 k0_h1 => k0_hw1.2 k0_h1

def k0_off8 : Fin 3 → Nat :=
  let c1_i32_69 : BitVec 32 := 1#32
  let c3_i32_70 : BitVec 32 := 3#32
  let v82 : BitVec 32 := Scalar.remsi c1_i32_69 c3_i32_70
  let c0_i32_72 : BitVec 32 := 0#32
  let c0_i32_73 : BitVec 32 := 0#32
  ![v82.toNat, 0, 0]
def k0_off9 : Fin 2 → Nat :=
  let c0_i32_74 : BitVec 32 := 0#32
  let c1_i32_67 : BitVec 32 := 1#32
  let c8_i32_68 : BitVec 32 := 8#32
  let v81 : BitVec 32 := Scalar.remsi c1_i32_67 c8_i32_68
  let c1024_i32_71 : BitVec 32 := 1024#32
  let v83 : BitVec 32 := Scalar.muli v81 c1024_i32_71
  ![0, v83.toNat]
def k0_off10 : Fin 1 → Nat :=
  let c1_i32_75 : BitVec 32 := 1#32
  let c8_i32_76 : BitVec 32 := 8#32
  let v89 : BitVec 32 := Scalar.divsi c1_i32_75 c8_i32_76
  let v93 : Index := Scalar.indexCast v89
  ![v93.toNat]
def k0_mult2 (v94 : BitVec 32) : BitVec 32 :=
  v94

def k0_off11 : Fin 1 → Nat :=
  let c1_i32_79 : BitVec 32 := 1#32
  let c3_i32_80 : BitVec 32 := 3#32
  let v91 : BitVec 32 := Scalar.remsi c1_i32_79 c3_i32_80
  ![v91.toNat]
def k0_off12 : Fin 3 → Nat :=
  let c1_i32_79 : BitVec 32 := 1#32
  let c3_i32_80 : BitVec 32 := 3#32
  let v91 : BitVec 32 := Scalar.remsi c1_i32_79 c3_i32_80
  let c0_i32_82 : BitVec 32 := 0#32
  let c0_i32_83 : BitVec 32 := 0#32
  ![v91.toNat, 0, 0]
def k0_off13 (v94 : BitVec 32) : Fin 2 → Nat :=
  let c1_i32_77 : BitVec 32 := 1#32
  let c8_i32_78 : BitVec 32 := 8#32
  let v90 : BitVec 32 := Scalar.remsi c1_i32_77 c8_i32_78
  let c1024_i32_81 : BitVec 32 := 1024#32
  let v92 : BitVec 32 := Scalar.muli v90 c1024_i32_81
  let v95 : BitVec 32 := v94
  ![v92.toNat, v95.toNat]

def k0_chk2 (i : grid0.Coords) (v94 : BitVec 32) : Prop :=
  (∀ (k0_h1 : k0_cond1 i = 1#1), 2048 ∣ (k0_mult2 v94).toNat) ∧
  (∀ (k0_h1 : k0_cond1 i = 1#1), ∀ a, (k0_off13 v94) a + S1024x2048.size a ≤ S8192x4096.size a)
theorem k0_mult2_dvd : ∀ (i : grid0.Coords) (v94 : BitVec 32) (k0_hw2 : k0_chk2 i v94), ∀ (k0_h1 : k0_cond1 i = 1#1), 2048 ∣ (k0_mult2 v94).toNat := fun i v94 k0_hw2 k0_h1 => k0_hw2.1 k0_h1
theorem k0_off13_inb : ∀ (i : grid0.Coords) (v94 : BitVec 32) (k0_hw2 : k0_chk2 i v94), ∀ (k0_h1 : k0_cond1 i = 1#1), ∀ a, (k0_off13 v94) a + S1024x2048.size a ≤ S8192x4096.size a := fun i v94 k0_hw2 k0_h1 => k0_hw2.2 k0_h1

def k0_off14 (i : grid0.Coords) : Fin 1 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c3_i32 : BitVec 32 := 3#32
  let v8 : BitVec 32 := Scalar.remsi v4 c3_i32
  ![v8.toNat]
def k0_off15 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c3_i32 : BitVec 32 := 3#32
  let v8 : BitVec 32 := Scalar.remsi v4 c3_i32
  let c0_i32_2 : BitVec 32 := 0#32
  let c0_i32_3 : BitVec 32 := 0#32
  ![v8.toNat, 0, 0]
def k0_off16 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c3_i32 : BitVec 32 := 3#32
  let v8 : BitVec 32 := Scalar.remsi v4 c3_i32
  let c0_i32_6 : BitVec 32 := 0#32
  let c0_i32_7 : BitVec 32 := 0#32
  ![v8.toNat, 0, 0]
def k0_cond2 (i : grid0.Coords) : BitVec 1 :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32 : BitVec 32 := 2#32
  let v19 : BitVec 32 := Scalar.addi v4 c2_i32
  let c16_i32 : BitVec 32 := 16#32
  let v20 : BitVec 1 := Scalar.cmpi .slt v19 c16_i32
  let v21 : BitVec 32 := Scalar.extui v20
  let c0_i32_10 : BitVec 32 := 0#32
  let v22 : BitVec 1 := Scalar.cmpi .ne v21 c0_i32_10
  v22

def k0_off17 (i : grid0.Coords) : Fin 1 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_21 : BitVec 32 := 2#32
  let v44 : BitVec 32 := Scalar.addi v4 c2_i32_21
  let c3_i32_23 : BitVec 32 := 3#32
  let v46 : BitVec 32 := Scalar.remsi v44 c3_i32_23
  ![v46.toNat]
def k0_off18 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_21 : BitVec 32 := 2#32
  let v44 : BitVec 32 := Scalar.addi v4 c2_i32_21
  let c3_i32_23 : BitVec 32 := 3#32
  let v46 : BitVec 32 := Scalar.remsi v44 c3_i32_23
  let c0_i32_24 : BitVec 32 := 0#32
  let c0_i32_25 : BitVec 32 := 0#32
  ![v46.toNat, 0, 0]
def k0_off19 (i : grid0.Coords) : Fin 2 → Nat :=
  let c0_i32_26 : BitVec 32 := 0#32
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_21 : BitVec 32 := 2#32
  let v44 : BitVec 32 := Scalar.addi v4 c2_i32_21
  let c8_i32_22 : BitVec 32 := 8#32
  let v45 : BitVec 32 := Scalar.remsi v44 c8_i32_22
  let c1024_i32 : BitVec 32 := 1024#32
  let v47 : BitVec 32 := Scalar.muli v45 c1024_i32
  ![0, v47.toNat]
def k0_off20 (i : grid0.Coords) : Fin 1 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_27 : BitVec 32 := 2#32
  let v53 : BitVec 32 := Scalar.addi v4 c2_i32_27
  let c8_i32_28 : BitVec 32 := 8#32
  let v54 : BitVec 32 := Scalar.divsi v53 c8_i32_28
  let v58 : Index := Scalar.indexCast v54
  ![v58.toNat]
def k0_mult3 (v59 : BitVec 32) : BitVec 32 :=
  v59

def k0_off21 (i : grid0.Coords) : Fin 1 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_27 : BitVec 32 := 2#32
  let v53 : BitVec 32 := Scalar.addi v4 c2_i32_27
  let c3_i32_30 : BitVec 32 := 3#32
  let v56 : BitVec 32 := Scalar.remsi v53 c3_i32_30
  ![v56.toNat]
def k0_off22 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_27 : BitVec 32 := 2#32
  let v53 : BitVec 32 := Scalar.addi v4 c2_i32_27
  let c3_i32_30 : BitVec 32 := 3#32
  let v56 : BitVec 32 := Scalar.remsi v53 c3_i32_30
  let c0_i32_32 : BitVec 32 := 0#32
  let c0_i32_33 : BitVec 32 := 0#32
  ![v56.toNat, 0, 0]
def k0_off23 (i : grid0.Coords) (v59 : BitVec 32) : Fin 2 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c2_i32_27 : BitVec 32 := 2#32
  let v53 : BitVec 32 := Scalar.addi v4 c2_i32_27
  let c8_i32_29 : BitVec 32 := 8#32
  let v55 : BitVec 32 := Scalar.remsi v53 c8_i32_29
  let c1024_i32_31 : BitVec 32 := 1024#32
  let v57 : BitVec 32 := Scalar.muli v55 c1024_i32_31
  let v60 : BitVec 32 := v59
  ![v57.toNat, v60.toNat]

def k0_chk3 (i : grid0.Coords) (v59 : BitVec 32) : Prop :=
  (∀ (k0_h2 : k0_cond2 i = 1#1), 2048 ∣ (k0_mult3 v59).toNat) ∧
  (∀ (k0_h2 : k0_cond2 i = 1#1), ∀ a, (k0_off23 i v59) a + S1024x2048.size a ≤ S8192x4096.size a)
theorem k0_mult3_dvd : ∀ (i : grid0.Coords) (v59 : BitVec 32) (k0_hw3 : k0_chk3 i v59), ∀ (k0_h2 : k0_cond2 i = 1#1), 2048 ∣ (k0_mult3 v59).toNat := fun i v59 k0_hw3 k0_h2 => k0_hw3.1 k0_h2
theorem k0_off23_inb : ∀ (i : grid0.Coords) (v59 : BitVec 32) (k0_hw3 : k0_chk3 i v59), ∀ (k0_h2 : k0_cond2 i = 1#1), ∀ a, (k0_off23 i v59) a + S1024x2048.size a ≤ S8192x4096.size a := fun i v59 k0_hw3 k0_h2 => k0_hw3.2 k0_h2

def k0_off24 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c3_i32 : BitVec 32 := 3#32
  let v8 : BitVec 32 := Scalar.remsi v4 c3_i32
  let v23 : Index := Scalar.indexCast v8
  let c0 : Index := 0#32
  let c0_11 : Index := 0#32
  ![v23.toNat, 0, 0]
def k0_off25 (i : grid0.Coords) : Fin 3 → Nat :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c3_i32 : BitVec 32 := 3#32
  let v8 : BitVec 32 := Scalar.remsi v4 c3_i32
  let v26 : Index := Scalar.indexCast v8
  let c0_12 : Index := 0#32
  let c0_13 : Index := 0#32
  ![v26.toNat, 0, 0]
def k0_cond3 (i : grid0.Coords) : BitVec 1 :=
  let arg1 : BitVec 32 := BitVec.ofNat 32 (i 1).val
  let c0_i32_14 : BitVec 32 := 0#32
  let v30 : BitVec 1 := Scalar.cmpi .eq arg1 c0_i32_14
  let v31 : BitVec 32 := Scalar.extui v30
  let c0_i32_15 : BitVec 32 := 0#32
  let v32 : BitVec 1 := Scalar.cmpi .ne v31 c0_i32_15
  v32

def k0_off26 (i : grid0.Coords) : Fin 3 → Nat :=
  let arg0 : BitVec 32 := BitVec.ofNat 32 (i 0).val
  let v44 : Index := Scalar.indexCast arg0
  let c0_21 : Index := 0#32
  let c0_22 : Index := 0#32
  ![v44.toNat, 0, 0]
def k0_cond4 (i : grid0.Coords) : BitVec 1 :=
  let arg1 : BitVec 32 := BitVec.ofNat 32 (i 1).val
  let c0_i32_16 : BitVec 32 := 0#32
  let v33 : BitVec 1 := Scalar.cmpi .ne arg1 c0_i32_16
  let v34 : BitVec 32 := Scalar.extui v33
  let c0_i32_17 : BitVec 32 := 0#32
  let v35 : BitVec 1 := Scalar.cmpi .ne v34 c0_i32_17
  v35

def k0_off27 (i : grid0.Coords) : Fin 3 → Nat :=
  let arg0 : BitVec 32 := BitVec.ofNat 32 (i 0).val
  let v44 : Index := Scalar.indexCast arg0
  let c0_21 : Index := 0#32
  let c0_22 : Index := 0#32
  ![v44.toNat, 0, 0]
def k0_cond5 (i : grid0.Coords) : BitVec 1 :=
  let arg0 : BitVec 32 := BitVec.ofNat 32 (i 0).val
  let c1_i32_18 : BitVec 32 := 1#32
  let v36 : BitVec 1 := Scalar.cmpi .eq arg0 c1_i32_18
  let arg1 : BitVec 32 := BitVec.ofNat 32 (i 1).val
  let c4_i32 : BitVec 32 := 4#32
  let v37 : BitVec 1 := Scalar.cmpi .slt arg1 c4_i32
  let v38 : BitVec 1 := Scalar.andi v36 v37
  let v39 : BitVec 32 := Scalar.extui v38
  let c0_i32_19 : BitVec 32 := 0#32
  let v40 : BitVec 1 := Scalar.cmpi .ne v39 c0_i32_19
  v40

def k0_off28 (i : grid0.Coords) : Fin 1 → Nat :=
  let arg1 : BitVec 32 := BitVec.ofNat 32 (i 1).val
  let v44 : Index := Scalar.indexCast arg1
  ![v44.toNat]
def k0_mult4 (v45 : BitVec 32) : BitVec 32 :=
  v45

def k0_off29 (i : grid0.Coords) : Fin 1 → Nat :=
  let arg1 : BitVec 32 := BitVec.ofNat 32 (i 1).val
  let v48 : Index := Scalar.indexCast arg1
  ![v48.toNat]
def k0_off30 (i : grid0.Coords) : Fin 1 → Nat :=
  let arg1 : BitVec 32 := BitVec.ofNat 32 (i 1).val
  ![arg1.toNat]
def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v47 : BitVec 32 := Scalar.muli v2 c1024_i32
  let c0_i32_24 : BitVec 32 := 0#32
  ![v47.toNat, 0]
def k0_off33 (v45 : BitVec 32) : Fin 3 → Nat :=
  let c0_i32_21 : BitVec 32 := 0#32
  let c0_i32_25 : BitVec 32 := 0#32
  let v46 : BitVec 32 := v45
  ![0, 0, v46.toNat]

def k0_chk4 (i : grid0.Coords) (v45 : BitVec 32) : Prop :=
  (∀ (k0_h5 : k0_cond5 i = 1#1), 512 ∣ (k0_mult4 v45).toNat) ∧
  (∀ (k0_h5 : k0_cond5 i = 1#1), ∀ a, (k0_off33 v45) a + S1x1024x512.size a ≤ S2x1024x2048.size a)
theorem k0_mult4_dvd : ∀ (i : grid0.Coords) (v45 : BitVec 32) (k0_hw4 : k0_chk4 i v45), ∀ (k0_h5 : k0_cond5 i = 1#1), 512 ∣ (k0_mult4 v45).toNat := fun i v45 k0_hw4 k0_h5 => k0_hw4.1 k0_h5
theorem k0_off33_inb : ∀ (i : grid0.Coords) (v45 : BitVec 32) (k0_hw4 : k0_chk4 i v45), ∀ (k0_h5 : k0_cond5 i = 1#1), ∀ a, (k0_off33 v45) a + S1x1024x512.size a ≤ S2x1024x2048.size a := fun i v45 k0_hw4 k0_h5 => k0_hw4.2 k0_h5

def k0_dev9 (v49 : BitVec 32) : Nat :=
  let c0_i32_23 : BitVec 32 := 0#32
  let c1_i32_22 : BitVec 32 := 1#32
  let v50 : BitVec 32 := Scalar.muli v49 c1_i32_22
  let v51 : BitVec 32 := Scalar.addi c0_i32_23 v50
  v51.toNat

def k0_chk5 (i : grid0.Coords) (v49 : BitVec 32) : Prop :=
  (∀ (k0_h5 : k0_cond5 i = 1#1), (k0_dev9 v49) < nD)
theorem k0_dev9_lt : ∀ (i : grid0.Coords) (v49 : BitVec 32) (k0_hw5 : k0_chk5 i v49), ∀ (k0_h5 : k0_cond5 i = 1#1), (k0_dev9 v49) < nD := fun i v49 k0_hw5 k0_h5 => k0_hw5 k0_h5

def k0_cond6 (i : grid0.Coords) : BitVec 1 :=
  let arg0 : BitVec 32 := BitVec.ofNat 32 (i 0).val
  let c8_i32_0 : BitVec 32 := 8#32
  let v3 : BitVec 32 := Scalar.muli arg0 c8_i32_0
  let arg1 : BitVec 32 := BitVec.ofNat 32 (i 1).val
  let v4 : BitVec 32 := Scalar.addi v3 arg1
  let c15_i32 : BitVec 32 := 15#32
  let v41 : BitVec 1 := Scalar.cmpi .eq v4 c15_i32
  let v42 : BitVec 32 := Scalar.extui v41
  let c0_i32_20 : BitVec 32 := 0#32
  let v43 : BitVec 1 := Scalar.cmpi .ne v42 c0_i32_20
  v43

def k0_mult5 (v44 : BitVec 32) : BitVec 32 :=
  v44

def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v46 : BitVec 32 := Scalar.muli v2 c1024_i32
  let c0_i32_23 : BitVec 32 := 0#32
  ![v46.toNat, 0]
def k0_off35 (v44 : BitVec 32) : Fin 3 → Nat :=
  let c1_i32_22 : BitVec 32 := 1#32
  let c0_i32_24 : BitVec 32 := 0#32
  let v45 : BitVec 32 := v44
  ![1, 0, v45.toNat]

def k0_chk6 (i : grid0.Coords) (v44 : BitVec 32) : Prop :=
  (∀ (k0_h6 : k0_cond6 i = 1#1), 512 ∣ (k0_mult5 v44).toNat) ∧
  (∀ (k0_h6 : k0_cond6 i = 1#1), ∀ a, (k0_off35 v44) a + S1x1024x512.size a ≤ S2x1024x2048.size a)
theorem k0_mult5_dvd : ∀ (i : grid0.Coords) (v44 : BitVec 32) (k0_hw6 : k0_chk6 i v44), ∀ (k0_h6 : k0_cond6 i = 1#1), 512 ∣ (k0_mult5 v44).toNat := fun i v44 k0_hw6 k0_h6 => k0_hw6.1 k0_h6
theorem k0_off35_inb : ∀ (i : grid0.Coords) (v44 : BitVec 32) (k0_hw6 : k0_chk6 i v44), ∀ (k0_h6 : k0_cond6 i = 1#1), ∀ a, (k0_off35 v44) a + S1x1024x512.size a ≤ S2x1024x2048.size a := fun i v44 k0_hw6 k0_h6 => k0_hw6.2 k0_h6

def k0_mult6 (v50 : BitVec 32) : BitVec 32 :=
  v50

def k0_off36 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_25 : BitVec 32 := 1024#32
  let v52 : BitVec 32 := Scalar.muli v2 c1024_i32_25
  let c0_i32_29 : BitVec 32 := 0#32
  ![v52.toNat, 0]
def k0_off38 (v50 : BitVec 32) : Fin 3 → Nat :=
  let c1_i32_26 : BitVec 32 := 1#32
  let c0_i32_30 : BitVec 32 := 0#32
  let v51 : BitVec 32 := v50
  ![1, 0, v51.toNat]

def k0_chk7 (i : grid0.Coords) (v50 : BitVec 32) : Prop :=
  (∀ (k0_h6 : k0_cond6 i = 1#1), 512 ∣ (k0_mult6 v50).toNat) ∧
  (∀ (k0_h6 : k0_cond6 i = 1#1), ∀ a, (k0_off38 v50) a + S1x1024x512.size a ≤ S2x1024x2048.size a)
theorem k0_mult6_dvd : ∀ (i : grid0.Coords) (v50 : BitVec 32) (k0_hw7 : k0_chk7 i v50), ∀ (k0_h6 : k0_cond6 i = 1#1), 512 ∣ (k0_mult6 v50).toNat := fun i v50 k0_hw7 k0_h6 => k0_hw7.1 k0_h6
theorem k0_off38_inb : ∀ (i : grid0.Coords) (v50 : BitVec 32) (k0_hw7 : k0_chk7 i v50), ∀ (k0_h6 : k0_cond6 i = 1#1), ∀ a, (k0_off38 v50) a + S1x1024x512.size a ≤ S2x1024x2048.size a := fun i v50 k0_hw7 k0_h6 => k0_hw7.2 k0_h6

def k0_dev10 (v53 : BitVec 32) : Nat :=
  let c0_i32_28 : BitVec 32 := 0#32
  let c1_i32_27 : BitVec 32 := 1#32
  let v54 : BitVec 32 := Scalar.muli v53 c1_i32_27
  let v55 : BitVec 32 := Scalar.addi c0_i32_28 v54
  v55.toNat

def k0_chk8 (i : grid0.Coords) (v53 : BitVec 32) : Prop :=
  (∀ (k0_h6 : k0_cond6 i = 1#1), (k0_dev10 v53) < nD)
theorem k0_dev10_lt : ∀ (i : grid0.Coords) (v53 : BitVec 32) (k0_hw8 : k0_chk8 i v53), ∀ (k0_h6 : k0_cond6 i = 1#1), (k0_dev10 v53) < nD := fun i v53 k0_hw8 k0_h6 => k0_hw8 k0_h6

def k0_mult7 (v63 : BitVec 32) : BitVec 32 :=
  v63

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_31 : BitVec 32 := 1024#32
  let v65 : BitVec 32 := Scalar.muli v2 c1024_i32_31
  let c0_i32_35 : BitVec 32 := 0#32
  ![v65.toNat, 0]
def k0_off41 (v63 : BitVec 32) : Fin 3 → Nat :=
  let c1_i32_32 : BitVec 32 := 1#32
  let c0_i32_36 : BitVec 32 := 0#32
  let v64 : BitVec 32 := v63
  ![1, 0, v64.toNat]

def k0_chk9 (i : grid0.Coords) (v63 : BitVec 32) : Prop :=
  (∀ (k0_h6 : k0_cond6 i = 1#1), 512 ∣ (k0_mult7 v63).toNat) ∧
  (∀ (k0_h6 : k0_cond6 i = 1#1), ∀ a, (k0_off41 v63) a + S1x1024x512.size a ≤ S2x1024x2048.size a)
theorem k0_mult7_dvd : ∀ (i : grid0.Coords) (v63 : BitVec 32) (k0_hw9 : k0_chk9 i v63), ∀ (k0_h6 : k0_cond6 i = 1#1), 512 ∣ (k0_mult7 v63).toNat := fun i v63 k0_hw9 k0_h6 => k0_hw9.1 k0_h6
theorem k0_off41_inb : ∀ (i : grid0.Coords) (v63 : BitVec 32) (k0_hw9 : k0_chk9 i v63), ∀ (k0_h6 : k0_cond6 i = 1#1), ∀ a, (k0_off41 v63) a + S1x1024x512.size a ≤ S2x1024x2048.size a := fun i v63 k0_hw9 k0_h6 => k0_hw9.2 k0_h6

def k0_dev11 (v66 : BitVec 32) : Nat :=
  let c0_i32_34 : BitVec 32 := 0#32
  let c1_i32_33 : BitVec 32 := 1#32
  let v67 : BitVec 32 := Scalar.muli v66 c1_i32_33
  let v68 : BitVec 32 := Scalar.addi c0_i32_34 v67
  v68.toNat

def k0_chk10 (i : grid0.Coords) (v66 : BitVec 32) : Prop :=
  (∀ (k0_h6 : k0_cond6 i = 1#1), (k0_dev11 v66) < nD)
theorem k0_dev11_lt : ∀ (i : grid0.Coords) (v66 : BitVec 32) (k0_hw10 : k0_chk10 i v66), ∀ (k0_h6 : k0_cond6 i = 1#1), (k0_dev11 v66) < nD := fun i v66 k0_hw10 k0_h6 => k0_hw10 k0_h6

def k0_mult8 (v76 : BitVec 32) : BitVec 32 :=
  v76

def k0_off42 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_37 : BitVec 32 := 1024#32
  let v78 : BitVec 32 := Scalar.muli v2 c1024_i32_37
  let c0_i32_41 : BitVec 32 := 0#32
  ![v78.toNat, 0]
def k0_off44 (v76 : BitVec 32) : Fin 3 → Nat :=
  let c1_i32_38 : BitVec 32 := 1#32
  let c0_i32_42 : BitVec 32 := 0#32
  let v77 : BitVec 32 := v76
  ![1, 0, v77.toNat]

def k0_chk11 (i : grid0.Coords) (v76 : BitVec 32) : Prop :=
  (∀ (k0_h6 : k0_cond6 i = 1#1), 512 ∣ (k0_mult8 v76).toNat) ∧
  (∀ (k0_h6 : k0_cond6 i = 1#1), ∀ a, (k0_off44 v76) a + S1x1024x512.size a ≤ S2x1024x2048.size a)
theorem k0_mult8_dvd : ∀ (i : grid0.Coords) (v76 : BitVec 32) (k0_hw11 : k0_chk11 i v76), ∀ (k0_h6 : k0_cond6 i = 1#1), 512 ∣ (k0_mult8 v76).toNat := fun i v76 k0_hw11 k0_h6 => k0_hw11.1 k0_h6
theorem k0_off44_inb : ∀ (i : grid0.Coords) (v76 : BitVec 32) (k0_hw11 : k0_chk11 i v76), ∀ (k0_h6 : k0_cond6 i = 1#1), ∀ a, (k0_off44 v76) a + S1x1024x512.size a ≤ S2x1024x2048.size a := fun i v76 k0_hw11 k0_h6 => k0_hw11.2 k0_h6

def k0_dev12 (v79 : BitVec 32) : Nat :=
  let c0_i32_40 : BitVec 32 := 0#32
  let c1_i32_39 : BitVec 32 := 1#32
  let v80 : BitVec 32 := Scalar.muli v79 c1_i32_39
  let v81 : BitVec 32 := Scalar.addi c0_i32_40 v80
  v81.toNat

def k0_chk12 (i : grid0.Coords) (v79 : BitVec 32) : Prop :=
  (∀ (k0_h6 : k0_cond6 i = 1#1), (k0_dev12 v79) < nD)
theorem k0_dev12_lt : ∀ (i : grid0.Coords) (v79 : BitVec 32) (k0_hw12 : k0_chk12 i v79), ∀ (k0_h6 : k0_cond6 i = 1#1), (k0_dev12 v79) < nD := fun i v79 k0_hw12 k0_h6 => k0_hw12 k0_h6

def k0_mult9 (v89 : BitVec 32) : BitVec 32 :=
  v89

def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_44 : BitVec 32 := 1024#32
  let v91 : BitVec 32 := Scalar.muli v2 c1024_i32_44
  let c0_i32_46 : BitVec 32 := 0#32
  ![v91.toNat, 0]
def k0_off46 (v89 : BitVec 32) : Fin 3 → Nat :=
  let c1_i32_45 : BitVec 32 := 1#32
  let c0_i32_47 : BitVec 32 := 0#32
  let v90 : BitVec 32 := v89
  ![1, 0, v90.toNat]

def k0_chk13 (i : grid0.Coords) (v89 : BitVec 32) : Prop :=
  (∀ (k0_h6 : k0_cond6 i = 1#1), 512 ∣ (k0_mult9 v89).toNat) ∧
  (∀ (k0_h6 : k0_cond6 i = 1#1), ∀ a, (k0_off46 v89) a + S1x1024x512.size a ≤ S2x1024x2048.size a)
theorem k0_mult9_dvd : ∀ (i : grid0.Coords) (v89 : BitVec 32) (k0_hw13 : k0_chk13 i v89), ∀ (k0_h6 : k0_cond6 i = 1#1), 512 ∣ (k0_mult9 v89).toNat := fun i v89 k0_hw13 k0_h6 => k0_hw13.1 k0_h6
theorem k0_off46_inb : ∀ (i : grid0.Coords) (v89 : BitVec 32) (k0_hw13 : k0_chk13 i v89), ∀ (k0_h6 : k0_cond6 i = 1#1), ∀ a, (k0_off46 v89) a + S1x1024x512.size a ≤ S2x1024x2048.size a := fun i v89 k0_hw13 k0_h6 => k0_hw13.2 k0_h6
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Proto.lean ====
/- The protocol of the kernel's one call: the windows its transfers move, what they hold, and the schedule of
    the cells on which devices meet. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Transfers
public import Idealize.ShloMosaic.Lib.Tactic
public import Idealize.ShloMosaic.Lib.ValueIdx
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The meeting cells' rounds, a duty named by the device that pays it. -/
abbrev UB : Type := Rounds.URounds (GSem nD τ sig) (Dev nD)
/-- The pipeline library's rounds, the meeting cells' rounds, and counters for the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the meeting cells' rounds sit. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by
  unfold ER; infer_instance
abbrev EC : UEmb Counters (MT nD τ sig Unit (Elt F) ℕ UU ℕ) := countersEmb

variable (m : (ℓ : Loc nD τ sig) → Buf (Elt F) ℓ)

/-! ## Devices: the half, the place within the half -/

/-- The half of the mesh the half `s` of the grid computes for: the other one first, then the device's own. -/
def gsel (c : Dev nD) (s : Fin 2) : Fin 2 := ⟨(c.val / 4 + 1 + s.val) % 2, Nat.mod_lt _ (by decide)⟩
/-- The device the `k`-th block goes to. -/
def tgt (c : Dev nD) (k : Fin 8) : Dev nD :=
  ⟨(gsel c ⟨k.val / 4, by omega⟩).val * 4 + (c.val % 4 + k.val) % 4, by have := (gsel c ⟨k.val / 4, by omega⟩).isLt; show _ < 8; omega⟩
/-- The half of the grid that computes for device `d`. -/
def half (c d : Dev nD) : Fin 2 := if c.val / 4 = d.val / 4 then 1 else 0
/-- A device's place within its half. -/
def place (c : Dev nD) : Fin 4 := ⟨c.val % 4, Nat.mod_lt _ (by decide)⟩

/-- Which block a device gets: the inverse of `tgt c`. -/
def tgtInv (c d : Dev nD) : Fin 8 :=
  ⟨(half c d).val * 4 + (d.val + 4 - c.val % 4) % 4, by have := (half c d).isLt; omega⟩
theorem tgtInv_tgt (c : Dev nD) (k : Fin 8) : tgtInv c (tgt c k) = k := by revert c k; decide
theorem tgt_tgtInv (c : Dev nD) (d : Dev nD) : tgt c (tgtInv c d) = d := by revert c d; decide
def tgtEquiv (c : Dev nD) : Fin 8 ≃ Dev nD := ⟨tgt c, tgtInv c, tgtInv_tgt c, tgt_tgtInv c⟩
theorem tgt_four (c : Dev nD) : tgt c 4 = c := by revert c; decide
theorem tgt_eq_self (c : Dev nD) (k : Fin 8) : tgt c k = c ↔ k = 4 := by revert c k; decide

/-! ## The windows -/

abbrev xA : Memref sig .tc .hbm S1024x8192 .f32 := Memref.whole main_arg0
abbrev wA : Memref sig .tc .hbm S8192x4096 .f32 := Memref.whole main_arg1
abbrev oA : Memref sig .tc .hbm S8192x512 .f32 := Memref.whole main_v26
abbrev aA : Memref sig .tc .vmem S2x1024x2048 .f32 := Memref.whole cc0_scratch0
abbrev xB : Memref sig .tc .vmem S3x1024x1024 .f32 := Memref.whole cc0_scratch1
abbrev wB : Memref sig .tc .vmem S3x1024x2048 .f32 := Memref.whole cc0_scratch2

theorem row_inb (p : Dev nD) : ∀ a, (![1024 * p.val, 0] : Fin 2 → ℕ) a + S1024x512.size a ≤ S8192x512.size a := by
  revert p; decide
/-- The rows of the result that device `p` computes. -/
abbrev rowM (p : Dev nD) : Memref sig .tc .hbm S1024x512 .f32 :=
  oA.slice (Rect.unit (s := S8192x512) ![1024 * p.val, 0] S1024x512.size (row_inb p)) (fun _ => rfl)

theorem win_inb (s : Fin 2) (q : Fin 4) : ∀ a, (![s.val, 0, 512 * q.val] : Fin 3 → ℕ) a + S1x1024x512.size a ≤ S2x1024x2048.size a := by
  revert s q; decide
/-- Window `q` of accumulator `s`. -/
abbrev winM (s : Fin 2) (q : Fin 4) : Memref sig .tc .vmem S1024x512 .f32 :=
  (aA.slice (Rect.unit (s := S2x1024x2048) ![s.val, 0, 512 * q.val] S1x1024x512.size (win_inb s q)) (fun _ => rfl)).squeeze
    S1024x512 squeezes_S1x1024x512_S1024x512

theorem acc_inb (s : Fin 2) : ∀ a, (![s.val, 0, 0] : Fin 3 → ℕ) a + S1x1024x2048.size a ≤ S2x1024x2048.size a := by
  revert s; decide
abbrev accR (s : Fin 2) : Rect S2x1024x2048 := Rect.unit (s := S2x1024x2048) ![s.val, 0, 0] S1x1024x2048.size (acc_inb s)
/-- Accumulator `s`. -/
abbrev accM (s : Fin 2) : Memref sig .tc .vmem S1024x2048 .f32 :=
  (aA.slice (accR s) (fun _ => rfl)).squeeze S1024x2048 squeezes_S1x1024x2048_S1024x2048

theorem xs_inb (b : Fin 3) : ∀ a, (![b.val, 0, 0] : Fin 3 → ℕ) a + S1x1024x1024.size a ≤ S3x1024x1024.size a := by
  revert b; decide
abbrev xsR (b : Fin 3) : Rect S3x1024x1024 := Rect.unit (s := S3x1024x1024) ![b.val, 0, 0] S1x1024x1024.size (xs_inb b)
/-- Slot `b` of the ring of left tiles. -/
abbrev xsM (b : Fin 3) : Memref sig .tc .vmem S1024x1024 .f32 :=
  (xB.slice (xsR b) (fun _ => rfl)).squeeze S1024x1024 squeezes_S1x1024x1024_S1024x1024
theorem ws_inb (b : Fin 3) : ∀ a, (![b.val, 0, 0] : Fin 3 → ℕ) a + S1x1024x2048.size a ≤ S3x1024x2048.size a := by
  revert b; decide
abbrev wsR (b : Fin 3) : Rect S3x1024x2048 := Rect.unit (s := S3x1024x2048) ![b.val, 0, 0] S1x1024x2048.size (ws_inb b)
/-- Slot `b` of the ring of right tiles. -/
abbrev wsM (b : Fin 3) : Memref sig .tc .vmem S1024x2048 .f32 :=
  (wB.slice (wsR b) (fun _ => rfl)).squeeze S1024x2048 squeezes_S1x1024x2048_S1024x2048

theorem xt_inb (k : Fin 8) : ∀ a, (![0, 1024 * k.val] : Fin 2 → ℕ) a + S1024x1024.size a ≤ S1024x8192.size a := by
  revert k; decide
/-- Left tile `k`. -/
abbrev xtM (k : Fin 8) : Memref sig .tc .hbm S1024x1024 .f32 :=
  xA.slice (Rect.unit (s := S1024x8192) ![0, 1024 * k.val] S1024x1024.size (xt_inb k)) (fun _ => rfl)
theorem wt_inb (k : Fin 8) (g : Fin 2) : ∀ a, (![1024 * k.val, 2048 * g.val] : Fin 2 → ℕ) a + S1024x2048.size a ≤ S8192x4096.size a := by
  revert k g; decide
/-- Right tile `k` of the columns of half `g`. -/
abbrev wtM (k : Fin 8) (g : Fin 2) : Memref sig .tc .hbm S1024x2048 .f32 :=
  wA.slice (Rect.unit (s := S8192x4096) ![1024 * k.val, 2048 * g.val] S1024x2048.size (wt_inb k g)) (fun _ => rfl)

/-! ## The contents -/

/-- Device `c`'s share of the left operand, and its copy of the right operand. -/
abbrev xv (c : Dev nD) : (main_arg0 : Ref sig .tc).ty.Contents (Elt F) := m ((c : Thread nD τ).loc main_arg0)
abbrev wv (c : Dev nD) : (main_arg1 : Ref sig .tc).ty.Contents (Elt F) := m ((c : Thread nD τ).loc main_arg1)

/-- The product of tile `k` for half `s` of the grid. -/
def prodT (c : Dev nD) (s : Fin 2) (k : Fin 8) : FVec F S1024x2048 .f32 :=
  matmul dot_S1024x1024_S1024x2048_S1024x2048_1_0_0_1_n_n none ((xtM k).view.read (Elt F) (xv m c))
    ((wtM k (gsel c s)).view.read (Elt F) (wv m c)) (constant S1024x2048 .f32 0#32)

/-- The accumulator of half `s` once `n` of the tiles 1, …, 7 are added to tile 0's product. -/
def part (c : Dev nD) (s : Fin 2) : ℕ → FVec F S1024x2048 .f32
  | 0 => prodT m c s 0
  | n + 1 => addf (part c s n) (prodT m c s ⟨(n + 1) % 8, Nat.mod_lt _ (by decide)⟩)

/-- The accumulators when both are complete. -/
def accF (c : Dev nD) : (cc0_scratch0 : Ref sig .tc).ty.Contents (Elt F) :=
  fun i => part m c (i 0) 7 (ix2 (i 1) (i 2))

/-- Device `c`'s result: rows block `p` is device `p`'s window for `c`. -/
def outF (c : Dev nD) : (main_v26 : Ref sig .tc).ty.Contents (Elt F) :=
  fun i => part m (⟨(i 0).val / 1024, by have := (i 0).isLt; show _ < 8; have h : S8192x512.size 0 = 8192 := rfl; change (i 0).val < 8192 at this; omega⟩ : Dev nD)
    (half ⟨(i 0).val / 1024, by have := (i 0).isLt; show _ < 8; change (i 0).val < 8192 at this; omega⟩ c) 7
    (ix2 ⟨(i 0).val % 1024, Nat.mod_lt _ (by decide)⟩
      ⟨512 * (place c).val + (i 1).val, by have := (i 1).isLt; change (i 1).val < 512 at this; have := (place c).isLt; show _ < 2048; omega⟩)

/-! ## The cells -/

abbrev barS : Sem sig := (SemArray.scalar (sig.barrier 0 rfl) : Sems sig S_).sem
def xS (b : Fin 3) : DmaSem sig := ⟨b.val, by have := b.isLt; show _ < 23; omega⟩
def wS (b : Fin 3) : DmaSem sig := ⟨3 + b.val, by have := b.isLt; show _ < 23; omega⟩
def sendS (k : Fin 8) : DmaSem sig := ⟨6 + k.val, by have := k.isLt; show _ < 23; omega⟩
def recvS (p : Dev nD) : DmaSem sig := ⟨14 + p.val, by have := p.isLt; change _ < 8 at this; show _ < 23; omega⟩
def locS : DmaSem sig := ⟨22, by decide⟩

theorem xS_eq (b : Fin 3) (o : Fin 1 → ℕ) (h : ∀ a, o a + S1.size a ≤ S3.size a) (e : o = ![b.val]) :
    ((cc0_scratch3.slice (Rect.unit (s := S3) o S1.size h)).squeeze S_ squeezes_S1_S_).sem = xS b := by
  subst e; revert b; decide
theorem wS_eq (b : Fin 3) (o : Fin 1 → ℕ) (h : ∀ a, o a + S1.size a ≤ S3.size a) (e : o = ![b.val]) :
    ((cc0_scratch4.slice (Rect.unit (s := S3) o S1.size h)).squeeze S_ squeezes_S1_S_).sem = wS b := by
  subst e; revert b; decide
theorem sendS_eq (k : Fin 8) (o : Fin 1 → ℕ) (h : ∀ a, o a + S1.size a ≤ S8.size a) (e : o = ![k.val]) :
    ((cc0_scratch5.slice (Rect.unit (s := S8) o S1.size h)).squeeze S_ squeezes_S1_S_).sem = sendS k := by
  subst e; revert k; decide
theorem recvS_eq (p : Dev nD) (o : Fin 1 → ℕ) (h : ∀ a, o a + S1.size a ≤ S8.size a) (e : o = ![p.val]) :
    ((cc0_scratch6.slice (Rect.unit (s := S8) o S1.size h)).squeeze S_ squeezes_S1_S_).sem = recvS p := by
  subst e; revert p; decide
theorem locS_eq : cc0_scratch7.sem = locS := by decide

abbrev barCell (c : Dev nD) : GSem nD τ sig := ((c : Thread nD τ), .reg barS)
abbrev sendCell (c : Dev nD) (k : Fin 8) : GSem nD τ sig := ((c : Thread nD τ), .dma (sendS k))
abbrev recvCell (c p : Dev nD) : GSem nD τ sig := ((c : Thread nD τ), .dma (recvS p))

/-- What a transfer of one block credits. -/
def N : ℕ := sig.dmaCredit .tc (Kind.tc.table .hbm) (oA.view.buf) S1024x512 .f32
theorem N_pos : 0 < N := sig.dmaCredit_pos _ _ _ _ _ (by decide)
theorem N_row (p : Dev nD) : (rowM p).view.dmaCredit = N := View.dmaCredit_closed _ S1024x512 rfl oA.view.buf rfl _ rfl
theorem N_win (s : Fin 2) (q : Fin 4) : (winM s q).view.dmaCredit = N :=
  View.dmaCredit_closed _ S1024x512 rfl aA.view.buf rfl _ (by unfold N; rfl)

/-! ## The schedule -/

/-- Rows block `p` of device `c`'s result. -/
abbrev rowPts (c p : Dev nD) (f : (main_v26 : Ref sig .tc).ty.Contents (Elt F)) : sProp 𝕄 :=
  (rowM p).view.loc (c : Thread nD τ) ↦[(rowM p).view.set]{fullShare} f
/-- A window of device `c`'s accumulator. -/
abbrev winPts (c : Dev nD) (s : Fin 2) (q : Fin 4) (f : (cc0_scratch0 : Ref sig .tc).ty.Contents (Elt F)) : sProp 𝕄 :=
  (winM s q).view.loc (c : Thread nD τ) ↦[(winM s q).view.set]{fullShare} f

/-- The window of the accumulators that device `c` sends as block `k`. -/
def winOf (c : Dev nD) (k : Fin 8) : Fin 4 := ⟨(c.val % 4 + k.val) % 4, Nat.mod_lt _ (by decide)⟩
def slotOf (k : Fin 8) : Fin 2 := ⟨k.val / 4, by omega⟩

/-- Device `d` hands device `c` the rows that `c` will fill, and says that its arrival cell for `c` is open. -/
def barPay (c d : Dev nD) : sProp 𝕄 := iprop((∃ f, rowPts d c f) ∗ reached ER (recvCell d c) 0)
/-- The block of device `p` has landed on device `c`. -/
def recvPay (c p : Dev nD) : sProp 𝕄 := rowPts c p (outF m c)
/-- Device `c` has its window back. -/
def sendPay (c : Dev nD) (k : Fin 8) : sProp 𝕄 := winPts c (slotOf k) (winOf c k) (accF m c)

/-- A send cell's block, an arrival cell's sender. -/
def sendIx (s : DmaSem sig) : Option (Fin 8) := if h : 6 ≤ s.val ∧ s.val < 14 then some ⟨s.val - 6, by omega⟩ else none
def recvIx (s : DmaSem sig) : Option (Dev nD) := if h : 14 ≤ s.val ∧ s.val < 22 then some ⟨s.val - 14, by show _ < 8; omega⟩ else none

theorem sendIx_send (k : Fin 8) : sendIx (sendS k) = some k := by revert k; decide
theorem recvIx_recv (p : Dev nD) : recvIx (recvS p) = some p := by revert p; decide
theorem sendIx_recv (p : Dev nD) : sendIx (recvS p) = none := by revert p; decide
theorem recvIx_send (k : Fin 8) : recvIx (sendS k) = none := by revert k; decide

/-- The duties of a cell of device `c`: the barrier cell's are every device's; a send cell's is the device's own,
    but for block 4 (its own block, which no transfer carries); an arrival cell's is its sender's, but for the
    device itself. -/
def dutiesOf (c : Dev nD) : SemLoc sig → Finset (Dev nD)
  | .reg _ => Finset.univ
  | .dma s => match sendIx s with
    | some k => if k = 4 then ∅ else {c}
    | none => match recvIx s with
      | some p => if p = c then ∅ else {p}
      | none => ∅

def payOf (c : Dev nD) (d : Dev nD) : SemLoc sig → sProp 𝕄
  | .reg _ => barPay c d
  | .dma s => match sendIx s with
    | some k => sendPay m c k
    | none => match recvIx s with
      | some p => recvPay m c p
      | none => iprop(emp)

def amountOf : SemLoc sig → ℕ
  | .reg _ => 1
  | .dma _ => N

/-- One round on every meeting cell. -/
def Rd : Rounds.Schedule (GSem nD τ sig) (Dev nD) 𝕄 where
  duties g r := if r = 0 ∧ g.1.2 = .tc then dutiesOf g.1.1 g.2 else ∅
  unitless _ := False
  amount g _ _ := amountOf g.2
  payload g _ d := payOf m g.1.1 d g.2
  amount_pos g _ _ _ := by
    rcases g with ⟨_, _ | _⟩
    · exact Nat.one_pos
    · exact N_pos

instance Rd_payload_storable (g : GSem nD τ sig) (r : ℕ) (d : Dev nD) :
    BI.Storable (upEmb : UEmb _ 𝕄) ((Rd (F := F) m).payload g r d) := by
  show BI.Storable upEmb (payOf m g.1.1 d g.2)
  unfold payOf barPay recvPay sendPay
  (repeat' split) <;> infer_instance

section Sched

variable (c : Dev nD)

omit [FloatOps F] in
theorem duties_later [FloatOps F] (g : GSem nD τ sig) : ∀ r, 1 ≤ r → (Rd (F := F) m).duties g r = ∅ :=
  fun r hr => by dsimp only [Rd]; exact if_neg fun h => by omega
theorem duties_bar : (Rd (F := F) m).duties (barCell c) 0 = Finset.univ := by dsimp only [Rd]; exact if_pos ⟨rfl, rfl⟩
theorem duties_send (k : Fin 8) (hk : k ≠ 4) : (Rd (F := F) m).duties (sendCell c k) 0 = {c} := by
  dsimp only [Rd]; rw [if_pos ⟨rfl, rfl⟩]; unfold dutiesOf; dsimp only; rw [sendIx_send]; exact if_neg hk
theorem duties_send_four : (Rd (F := F) m).duties (sendCell c 4) 0 = ∅ := by
  dsimp only [Rd]; rw [if_pos ⟨rfl, rfl⟩]; unfold dutiesOf; dsimp only; rw [sendIx_send]; exact if_pos rfl
theorem duties_recv (p : Dev nD) (hp : p ≠ c) : (Rd (F := F) m).duties (recvCell c p) 0 = {p} := by
  dsimp only [Rd]; rw [if_pos ⟨rfl, rfl⟩]; unfold dutiesOf; dsimp only; rw [sendIx_recv, recvIx_recv]; exact if_neg hp
theorem duties_recv_self : (Rd (F := F) m).duties (recvCell c c) 0 = ∅ := by
  dsimp only [Rd]; rw [if_pos ⟨rfl, rfl⟩]; unfold dutiesOf; dsimp only; rw [sendIx_recv, recvIx_recv]; exact if_pos rfl

theorem amount_bar (d : Dev nD) : (Rd (F := F) m).amount (barCell c) 0 d = 1 := rfl
theorem amount_send (k : Fin 8) (d : Dev nD) : (Rd (F := F) m).amount (sendCell c k) 0 d = N := rfl
theorem amount_recv (p d : Dev nD) : (Rd (F := F) m).amount (recvCell c p) 0 d = N := rfl

theorem expect_bar : (Rd (F := F) m).expect (barCell c) 0 = 8 := by
  unfold Schedule.expect Schedule.amountOf; rw [duties_bar]; rfl
theorem expect_send (k : Fin 8) (hk : k ≠ 4) : (Rd (F := F) m).expect (sendCell c k) 0 = N := by
  unfold Schedule.expect Schedule.amountOf; rw [duties_send m c k hk, Finset.sum_singleton, amount_send]
theorem expect_recv (p : Dev nD) (hp : p ≠ c) : (Rd (F := F) m).expect (recvCell c p) 0 = N := by
  unfold Schedule.expect Schedule.amountOf; rw [duties_recv m c p hp, Finset.sum_singleton, amount_recv]

theorem payload_bar (d : Dev nD) : (Rd (F := F) m).payload (barCell c) 0 d = barPay c d := rfl
theorem payload_send (k : Fin 8) (d : Dev nD) : (Rd (F := F) m).payload (sendCell c k) 0 d = sendPay m c k := by
  dsimp only [Rd]; unfold payOf; dsimp only; rw [sendIx_send]
theorem payload_recv (p d : Dev nD) : (Rd (F := F) m).payload (recvCell c p) 0 d = recvPay m c p := by
  dsimp only [Rd]; unfold payOf; dsimp only; rw [sendIx_recv, recvIx_recv]

theorem rest_bar : bigSep ((Rd (F := F) m).duties (barCell c) 0 \ ∅) (fun u => (Rd (F := F) m).payload (barCell c) 0 u)
    = bigSep Finset.univ fun d => barPay c d := by
  rw [Finset.sdiff_empty, duties_bar]; rfl
theorem rest_send (k : Fin 8) (hk : k ≠ 4) :
    bigSep ((Rd (F := F) m).duties (sendCell c k) 0 \ ∅) (fun u => (Rd (F := F) m).payload (sendCell c k) 0 u) = sendPay m c k := by
  rw [Finset.sdiff_empty, duties_send m c k hk, bigSep_singleton, payload_send]
theorem rest_recv (p : Dev nD) (hp : p ≠ c) :
    bigSep ((Rd (F := F) m).duties (recvCell c p) 0 \ ∅) (fun u => (Rd (F := F) m).payload (recvCell c p) 0 u) = recvPay m c p := by
  rw [Finset.sdiff_empty, duties_recv m c p hp, bigSep_singleton, payload_recv]

end Sched

/-! ## What a device owes, and the levels -/

/-- The blocks a device sends, in order. -/
def sends : List (Fin 8) := [0, 1, 2, 3, 5, 6, 7]
/-- The arrival credits still owed once `n` blocks are sent. -/
def oweS (c : Dev nD) (n : ℕ) : CellTallies nD τ sig Unit :=
  ((sends.drop n).map fun k => tallyAt (recvCell (tgt c k) c) () N).sum
/-- The barrier units still owed once `n` devices are signalled, the arrival credits on top. -/
def oweB (c : Dev nD) (n : ℕ) : CellTallies nD τ sig Unit :=
  oweS c 0 + (((List.finRange 8).drop n).map fun p : Fin 8 => tallyAt (barCell p) () 1).sum
/-- What device `c` owes at launch. -/
def O₀ (c : Dev nD) : CellTallies nD τ sig Unit := oweB c 0

def L (g : GSem nD τ sig) : Finset Unit := if g.1.2 = .tc then {()} else ∅
def lvS : SemLoc sig → ℕ
  | .reg _ => 1
  | .dma s => match recvIx s with
    | some _ => 2
    | none => 0
/-- Arrival cells lie above the barrier cells, and these above the rest. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything a sum of arrival credits owes sits on arrival cells. -/
theorem oweS_pos (c : Dev nD) (l : List (Fin 8)) (g : GSem nD τ sig) (u : Unit)
    (h : 0 < ((l.map fun k => tallyAt (recvCell (tgt c k) c) () N).sum : CellTallies nD τ sig Unit) g u) :
    ∃ d : Dev nD, g = recvCell d c := by
  induction l with
  | nil => exact absurd h (Nat.lt_irrefl 0)
  | cons k l ih =>
    rw [List.map_cons, List.sum_cons] at h
    change 0 < (tallyAt (recvCell (tgt c k) c) () N : CellTallies nD τ sig Unit) g u + _ at h
    rcases Nat.eq_zero_or_pos ((tallyAt (recvCell (tgt c k) c) () N : CellTallies nD τ sig Unit) g u) with h0 | h0
    · rw [h0, Nat.zero_add] at h; exact ih h
    · rw [tallyAt_apply] at h0
      by_cases hg : g = recvCell (tgt c k) c ∧ u = ()
      · exact ⟨_, hg.1⟩
      · rw [if_neg hg] at h0; exact absurd h0 (Nat.lt_irrefl 0)

/-- A cell that is no arrival cell may be waited for while arrival credits are owed. -/
theorem mayWait_low (c : Dev nD) (sm : SemLoc sig) (hs : lvS sm ≤ 1) (n : ℕ) :
    (levAts L lv : sProp 𝕄) ⊢ MayWait (c : Thread nD τ) sm () (oweS c n) :=
  MayOwe.of_cut (L := L) (lev := lv) 1 (fun p hp => by rw [Finset.mem_singleton.mp hp, L_tc]; exact Finset.mem_singleton_self _)
    (fun g u hg => by
      obtain ⟨d, rfl⟩ := oweS_pos c _ g u hg
      rw [L_tc]; exact Finset.mem_singleton_self _)
    (fun p hp => by rw [Finset.mem_singleton.mp hp]; exact hs)
    (fun g u hg => by
      obtain ⟨d, rfl⟩ := oweS_pos c _ g u hg
      show 1 < lvS (.dma (recvS c)); unfold lvS; dsimp only; rw [recvIx_recv]; exact Nat.one_lt_two)

theorem lv_x (b : Fin 3) : lvS (.dma (xS b)) ≤ 1 := by revert b; decide
theorem lv_w (b : Fin 3) : lvS (.dma (wS b)) ≤ 1 := by revert b; decide
theorem lv_loc : lvS (.dma locS) ≤ 1 := by decide

theorem oweS_succ (c : Dev nD) (n : ℕ) (k : Fin 8) (h : sends.drop n = k :: sends.drop (n + 1)) :
    oweS c n = oweS c (n + 1) + tallyAt (recvCell (tgt c k) c) () N := by
  unfold oweS; rw [h, List.map_cons, List.sum_cons, add_comm]
theorem oweS_end (c : Dev nD) : oweS c 7 = 0 := rfl
theorem oweB_succ (c : Dev nD) (n : ℕ) (p : Fin 8) (h : (List.finRange 8).drop n = p :: (List.finRange 8).drop (n + 1)) :
    oweB c n = oweB c (n + 1) + tallyAt (barCell p) () 1 := by
  unfold oweB; rw [h, List.map_cons, List.sum_cons, add_comm (tallyAt _ _ _), ← add_assoc]
theorem oweB_end (c : Dev nD) : oweB c 8 = oweS c 0 := by
  unfold oweB; exact add_zero _

end Cert.KernelIdealProof
-- ==== Proof.KernelIdeal.Steps.lean ====
/- The steps of the body on the local buffers: a tile fetched into a slot of a ring, waited for and read; an
    accumulator read and written; a table entry read. -/
module

public import proofs.«01_k».proof.Proof.KernelIdeal.Proto
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `c` owes, the waits it has made left open. -/
def ow (c : Dev nD) (O : CellTallies nD τ sig Unit) : sProp 𝕄 := iprop(∃ W, owes (c : Thread nD τ) O W)

/-- The read share of the two operands that belongs to a slot of the rings. -/
def sh : Fin 3 → PosShare TreeShare
  | 0 => fullShare.left
  | 1 => fullShare.right.left
  | 2 => fullShare.right.right

/-! ## The rings -/

abbrev xSlot (c : Dev nD) (b : Fin 3) (f : (cc0_scratch1 : Ref sig .tc).ty.Contents (Elt F)) : sProp 𝕄 :=
  (xsM b).view.loc (c : Thread nD τ) ↦[(xsM b).view.set]{fullShare} f
abbrev wSlot (c : Dev nD) (b : Fin 3) (f : (cc0_scratch2 : Ref sig .tc).ty.Contents (Elt F)) : sProp 𝕄 :=
  (wsM b).view.loc (c : Thread nD τ) ↦[(wsM b).view.set]{fullShare} f
abbrev xPts (c : Dev nD) (q : PosShare TreeShare) : sProp 𝕄 := (c : Thread nD τ).loc main_arg0 ↦{q} xv m c
abbrev wPts (c : Dev nD) (q : PosShare TreeShare) : sProp 𝕄 := (c : Thread nD τ).loc main_arg1 ↦{q} wv m c

def NX : ℕ := sig.dmaCredit .tc (Kind.tc.table .vmem) (xB.view.buf) S1024x1024 .f32
def NW : ℕ := sig.dmaCredit .tc (Kind.tc.table .vmem) (wB.view.buf) S1024x2048 .f32
theorem NX_pos : 0 < NX := sig.dmaCredit_pos _ _ _ _ _ (by decide)
theorem NW_pos : 0 < NW := sig.dmaCredit_pos _ _ _ _ _ (by decide)

theorem NX_slot (b : Fin 3) : (xsM b).view.dmaCredit = NX := View.dmaCredit_closed _ S1024x1024 rfl xB.view.buf rfl _ rfl
theorem NW_slot (b : Fin 3) : (wsM b).view.dmaCredit = NW := View.dmaCredit_closed _ S1024x2048 rfl wB.view.buf rfl _ rfl

/-- A slot with left tile `k` in it. -/
def hasX (c : Dev nD) (b : Fin 3) (k : Fin 8) : sProp 𝕄 :=
  iprop(∃ f, ⌜(xsM b).view.read (Elt F) f = (xtM k).view.read (Elt F) (xv m c)⌝ ∗ xSlot c b f)
def hasW (c : Dev nD) (b : Fin 3) (k : Fin 8) (g : Fin 2) : sProp 𝕄 :=
  iprop(∃ f, ⌜(wsM b).view.read (Elt F) f = (wtM k g).view.read (Elt F) (wv m c)⌝ ∗ wSlot c b f)

/-- A slot at rest: its cell at zero, its contents anything, its share of the operand. -/
def freeX (c : Dev nD) (b : Fin 3) : sProp 𝕄 :=
  iprop(semVal ((c : Thread nD τ), SemLoc.dma (xS b)) 0 ∗ (∃ f, xSlot c b f) ∗ xPts m c (sh b))
def freeW (c : Dev nD) (b : Fin 3) : sProp 𝕄 :=
  iprop(semVal ((c : Thread nD τ), SemLoc.dma (wS b)) 0 ∗ (∃ f, wSlot c b f) ∗ wPts m c (sh b))
/-- A slot that holds its tile. -/
def fullX (c : Dev nD) (b : Fin 3) (k : Fin 8) : sProp 𝕄 :=
  iprop(semVal ((c : Thread nD τ), SemLoc.dma (xS b)) 0 ∗ hasX m c b k ∗ xPts m c (sh b))
def fullW (c : Dev nD) (b : Fin 3) (k : Fin 8) (g : Fin 2) : sProp 𝕄 :=
  iprop(semVal ((c : Thread nD τ), SemLoc.dma (wS b)) 0 ∗ hasW m c b k g ∗ wPts m c (sh b))
/-- A slot whose tile is on its way. -/
def flyX (c : Dev nD) (b : Fin 3) (k : Fin 8) : sProp 𝕄 :=
  iprop(Flight EC (c : Thread nD τ) (SemLoc.dma (xS b)) () NX
      iprop(hasX m c b k ∗ ((xtM k).view.loc (c : Thread nD τ) ↦[(xtM k).view.set]{sh b} xv m c))
    ∗ ((c : Thread nD τ).loc main_arg0 ↦[Finset.univ \ (xtM k).view.set]{sh b} xv m c))
def flyW (c : Dev nD) (b : Fin 3) (k : Fin 8) (g : Fin 2) : sProp 𝕄 :=
  iprop(Flight EC (c : Thread nD τ) (SemLoc.dma (wS b)) () NW
      iprop(hasW m c b k g ∗ ((wtM k g).view.loc (c : Thread nD τ) ↦[(wtM k g).view.set]{sh b} wv m c))
    ∗ ((c : Thread nD τ).loc main_arg1 ↦[Finset.univ \ (wtM k g).view.set]{sh b} wv m c))

theorem fullX_free (c : Dev nD) (b : Fin 3) (k : Fin 8) : fullX m c b k ⊢ freeX m c b := by
  unfold fullX freeX hasX
  iintro ⟨Hs, ⟨%f, -, Hf⟩, Hx⟩
  isplitl [Hs]; · iexact Hs
  isplitl [Hf]; · iexists f; iexact Hf
  iexact Hx
theorem fullW_free (c : Dev nD) (b : Fin 3) (k : Fin 8) (g : Fin 2) : fullW m c b k g ⊢ freeW m c b := by
  unfold fullW freeW hasW
  iintro ⟨Hs, ⟨%f, -, Hf⟩, Hx⟩
  isplitl [Hs]; · iexact Hs
  isplitl [Hf]; · iexists f; iexact Hf
  iexact Hx

theorem landX (c : Dev nD) (b : Fin 3) (k : Fin 8) (f : (cc0_scratch1 : Ref sig .tc).ty.Contents (Elt F)) :
    iprop(((xsM b).view.loc (c : Thread nD τ) ↦[(xsM b).view.set]{fullShare}
          ((xsM b).view.write (Elt F) f ((xtM k).view.read (Elt F) (xv m c)) Finset.univ))
        ∗ ((xtM k).view.loc (c : Thread nD τ) ↦[(xtM k).view.set]{sh b} xv m c))
      ⊢ (iprop(hasX m c b k ∗ ((xtM k).view.loc (c : Thread nD τ) ↦[(xtM k).view.set]{sh b} xv m c)) : sProp 𝕄) := by
  unfold hasX
  iintro ⟨Hd, Hx⟩
  isplitl [Hd]
  · iexists _
    isplitr
    rotate_left
    · iexact Hd
    · ipureintro
      exact View.read_write_univ _ _
  · iexact Hx

theorem landW (c : Dev nD) (b : Fin 3) (k : Fin 8) (g : Fin 2) (f : (cc0_scratch2 : Ref sig .tc).ty.Contents (Elt F)) :
    iprop(((wsM b).view.loc (c : Thread nD τ) ↦[(wsM b).view.set]{fullShare}
          ((wsM b).view.write (Elt F) f ((wtM k g).view.read (Elt F) (wv m c)) Finset.univ))
        ∗ ((wtM k g).view.loc (c : Thread nD τ) ↦[(wtM k g).view.set]{sh b} wv m c))
      ⊢ (iprop(hasW m c b k g ∗ ((wtM k g).view.loc (c : Thread nD τ) ↦[(wtM k g).view.set]{sh b} wv m c)) : sProp 𝕄) := by
  unfold hasW
  iintro ⟨Hd, Hx⟩
  isplitl [Hd]
  · iexists _
    isplitr
    rotate_left
    · iexact Hd
    · ipureintro
      exact View.read_write_univ _ _
  · iexact Hx

section Ring

theorem wp_fetchX (c : Dev nD) (b : Fin 3) (k : Fin 8) {os : Fin 1 → ℕ} {hs : ∀ a, os a + S1.size a ≤ S3.size a} (es : os = ![b.val])
    {od : Fin 3 → ℕ} {hd : ∀ a, od a + S1x1024x1024.size a ≤ S3x1024x1024.size a} (ed : od = ![b.val, 0, 0])
    {ox : Fin 2 → ℕ} {hx : ∀ a, ox a + S1024x1024.size a ≤ S1024x8192.size a} (ex : ox = ![0, 1024 * k.val])
    {h1 h2 h3} {α : Type} {Q : α → sProp 𝕄} {K : PUnit → Prog (TpuEff nD τ sig (Elt F) Λ₀ .tc) α} :
    freeX m c b ⊢ iprop((flyX m c b k -∗ wp frame (wpE (defs₀ (F := F)) 𝒱₀ (c : Thread nD τ) none) Set.univ (K ⟨⟩) Q) -∗ wp frame (wpE (defs₀ (F := F)) 𝒱₀ (c : Thread nD τ) none) Set.univ
      (.op (.enqueueDma (xA.slice (Rect.unit (s := S1024x8192) ox S1024x1024.size hx) (fun _ => rfl))
        (.here ((xB.slice (Rect.unit (s := S3x1024x1024) od S1x1024x1024.size hd) (fun _ => rfl)).squeeze S1024x1024 squeezes_S1x1024x1024_S1024x1024))
        (.dma ((cc0_scratch3.slice (Rect.unit (s := S3) os S1.size hs)).squeeze S_ squeezes_S1_S_).sem) h1 h2 h3) K) Q) := by
  subst ed ex
  revert h3
  rw [xS_eq b os hs es]
  intro h3
  unfold freeX flyX
  iintro ⟨Hs, ⟨%f, Hf⟩, Hx⟩ Hk
  ihave Hx := (pointsTo_split_subset (Finset.subset_univ (xtM k).view.set)).1 $$ Hx
  icases Hx with ⟨Hx, Hr⟩
  iapply (wp_dmaLocal EC 𝒱₀ (c : Thread nD τ) none () NX (NX_slot b) NX_pos (Finset.Subset.refl _)
    (sm := .dma (xS b)) (src := xtM k) (dst := xsM b) (fs := xv m c) (fd := f)) $$ [Hs Hf Hx]
  · isplitl [Hx]; · iexact Hx
    isplitl [Hf]; · iexact Hf
    iexact Hs
  iintro HF
  iapply Hk
  isplitl [HF]
  · iapply (Flight_mono EC (c : Thread nD τ) (landX m c b k f)) $$ HF
  · iexact Hr

theorem wp_fetchW (c : Dev nD) (b : Fin 3) (k : Fin 8) (g : Fin 2) {os : Fin 1 → ℕ} {hs : ∀ a, os a + S1.size a ≤ S3.size a} (es : os = ![b.val])
    {od : Fin 3 → ℕ} {hd : ∀ a, od a + S1x1024x2048.size a ≤ S3x1024x2048.size a} (ed : od = ![b.val, 0, 0])
    {ox : Fin 2 → ℕ} {hx : ∀ a, ox a + S1024x2048.size a ≤ S8192x4096.size a} (ex : ox = ![1024 * k.val, 2048 * g.val])
    {h1 h2 h3} {α : Type} {Q : α → sProp 𝕄} {K : PUnit → Prog (TpuEff nD τ sig (Elt F) Λ₀ .tc) α} :
    freeW m c b ⊢ iprop((flyW m c b k g -∗ wp frame (wpE (defs₀ (F := F)) 𝒱₀ (c : Thread nD τ) none) Set.univ (K ⟨⟩) Q) -∗ wp frame (wpE (defs₀ (F := F)) 𝒱₀ (c : Thread nD τ) none) Set.univ
      (.op (.enqueueDma (wA.slice (Rect.unit (s := S8192x4096) ox S1024x2048.size hx) (fun _ => rfl))
        (.here ((wB.slice (Rect.unit (s := S3x1024x2048) od S1x1024x2048.size hd) (fun _ => rfl)).squeeze S1024x2048 squeezes_S1x1024x2048_S1024x2048))
        (.dma ((cc0_scratch4.slice (Rect.unit (s := S3) os S1.size hs)).squeeze S_ squeezes_S1_S_).sem) h1 h2 h3) K) Q) := by
  subst ed ex
  revert h3
  rw [wS_eq b os hs es]
  intro h3
  unfold freeW flyW
  iintro ⟨Hs, ⟨%f, Hf⟩, Hx⟩ Hk
  ihave Hx := (pointsTo_split_subset (Finset.subset_univ (wtM k g).view.set)).1 $$ Hx
  icases Hx with ⟨Hx, Hr⟩
  iapply (wp_dmaLocal EC 𝒱₀ (c : Thread nD τ) none () NW (NW_slot b) NW_pos (Finset.Subset.refl _)
    (sm := .dma (wS b)) (src := wtM k g) (dst := wsM b) (fs := wv m c) (fd := f)) $$ [Hs Hf Hx]
  · isplitl [Hx]; · iexact Hx
    isplitl [Hf]; · iexact Hf
    iexact Hs
  iintro HF
  iapply Hk
  isplitl [HF]
  · iapply (Flight_mono EC (c : Thread nD τ) (landW m c b k g f)) $$ HF
  · iexact Hr

theorem wp_awaitX (c : Dev nD) (b : Fin 3) (k : Fin 8) (O : CellTallies nD τ sig Unit) (hO : (levAts L lv : sProp 𝕄) ⊢ MayWait (c : Thread nD τ) (SemLoc.dma (xS b)) () O)
    {os : Fin 1 → ℕ} {hs : ∀ a, os a + S1.size a ≤ S3.size a} (es : os = ![b.val])
    {od : Fin 3 → ℕ} {hd : ∀ a, od a + S1x1024x1024.size a ≤ S3x1024x1024.size a} (ed : od = ![b.val, 0, 0])
    {src : Memref sig .tc .hbm S1024x1024 .f32} {h1 h2} {α : Type} {Q : α → sProp 𝕄} {K : PUnit → Prog (TpuEff nD τ sig (Elt F) Λ₀ .tc) α} :
    iprop(flyX m c b k ∗ ow c O ∗ levAts L lv) ⊢ iprop((iprop(fullX m c b k ∗ ow c O) -∗ wp frame (wpE (defs₀ (F := F)) 𝒱₀ (c : Thread nD τ) none) Set.univ (K ⟨⟩) Q) -∗ wp frame (wpE (defs₀ (F := F)) 𝒱₀ (c : Thread nD τ) none) Set.univ
      (.op (.waitDma2 ((cc0_scratch3.slice (Rect.unit (s := S3) os S1.size hs)).squeeze S_ squeezes_S1_S_).sem src
        ((xB.slice (Rect.unit (s := S3x1024x1024) od S1x1024x1024.size hd) (fun _ => rfl)).squeeze S1024x1024 squeezes_S1x1024x1024_S1024x1024) h1 h2) K) Q) := by
  subst ed
  rw [xS_eq b os hs es]
  unfold flyX fullX ow
  iintro ⟨⟨HF, Hr⟩, ⟨%W, HO⟩, #Hlev⟩ Hk
  iapply (wp_waitLocalO EC 𝒱₀ (c : Thread nD τ) none (dstw := xsM b) () (NX_slot b)) $$ [HF HO]
  · isplitl [HF]; · iexact HF
    isplitl [HO]; · iexact HO
    iapply hO; iexact Hlev
  iintro ⟨⟨Hd, Hx⟩, Hs, HO⟩
  iapply Hk
  isplitr [HO]
  · isplitl [Hs]; · iexact Hs
    isplitl [Hd]; · iexact Hd
    iapply (pointsTo_split_subset (Finset.subset_univ (xtM k).view.set)).2
    isplitl [Hx]; · iexact Hx
    iexact Hr
  · iexists _; iexact HO

theorem wp_loadX (c : Dev nD) (b : Fin 3) (k : Fin 8)
    {od : Fin 3 → ℕ} {hd : ∀ a, od a + S1x1024x1024.size a ≤ S3x1024x1024.size a} (ed : od = ![b.val, 0, 0])
    {hl} {α : Type} {Q : α → sProp 𝕄} {K : Vec F S1x1024x1024 .f32 → Prog (TpuEff nD τ sig (Elt F) Λ₀ .tc) α} :
    fullX m c b k ⊢ iprop((∀ v : Vec F S1x1024x1024 .f32, iprop(⌜shapeCast S1024x1024 v shapeCasts_S1x1024x1024_S1024x1024 = (xtM k).view.read (Elt F) (xv m c)⌝ ∗ fullX m c b k) -∗ wp frame (wpE (defs₀ (F := F)) 𝒱₀ (c : Thread nD τ) none) Set.univ (K v) Q) -∗ wp frame (wpE (defs₀ (F := F)) 𝒱₀ (c : Thread nD τ) none) Set.univ
      (.op (.load xB (Rect.unit (s := S3x1024x1024) od S1x1024x1024.size hd).toLoadRect hl) K) Q) := by
  subst ed
  unfold fullX hasX
  iintro ⟨Hs, ⟨%f, %hf, Hf⟩, Hx⟩ Hk
  iapply (wp_load_rect 𝒱₀ (c : Thread nD τ) none Set.univ (m := xB) (r := xsR b) (S := (xsM b).view.set) (f := f)
    (le_of_eq (View.set_reshape _ _).symm)) $$ [Hf]
  · iexact Hf
  iintro Hf
  iapply Hk
  isplitr
  · ipureintro
    exact hf
  isplitl [Hs]; · iexact Hs
  isplitl [Hf]
  · iexists f
    isplitr; · ipureintro; exact hf
    iexact Hf
  iexact Hx

theorem wp_awaitW (c : Dev nD) (b : Fin 3) (k : Fin 8) (g : Fin 2) (O : CellTallies nD τ sig Unit) (hO : (levAts L lv : sProp 𝕄) ⊢ MayWait (c : Thread nD τ) (SemLoc.dma (wS b)) () O)
    {os : Fin 1 → ℕ} {hs : ∀ a, os a + S1.size a ≤ S3.size a} (es : os = ![b.val])
    {od : Fin 3 → ℕ} {hd : ∀ a, od a + S1x1024x2048.size a ≤ S3x1024x2048.size a} (ed : od = ![b.val, 0, 0])
    {src : Memref sig .tc .hbm S1024x2048 .f32} {h1 h2} {α : Type} {Q : α → sProp 𝕄} {K : PUnit → Prog (TpuEff nD τ sig (Elt F) Λ₀ .tc) α} :
    iprop(flyW m c b k g ∗ ow c O ∗ levAts L lv) ⊢ iprop((iprop(fullW m c b k g ∗ ow c O) -∗ wp frame (wpE (defs₀ (F := F)) 𝒱₀ (c : Thread nD τ) none) Set.univ (K ⟨⟩) Q) -∗ wp frame (wpE (defs₀ (F := F)) 𝒱₀ (c : Thread nD τ) none) Set.univ
      (.op (.waitDma2 ((cc0_scratch4.slice (Rect.unit (s := S3) os S1.size hs)).squeeze S_ squeezes_S1_S_).sem src
        ((wB.slice (Rect.unit (s := S3x1024x2048) od S1x1024x2048.size hd) (fun _ => rfl)).squeeze S1024x2048 squeezes_S1x1024x2048_S1024x2048) h1 h2) K) Q) := by
  subst ed
  rw [wS_eq b os hs es]
  unfold flyW fullW ow
  iintro ⟨⟨HF, Hr⟩, ⟨%W, HO⟩, #Hlev⟩ Hk
  iapply (wp_waitLocalO EC 𝒱₀ (c : Thread nD τ) none (dstw := wsM b) () (NW_slot b)) $$ [HF HO]
  · isplitl [HF]; · iexact HF
    isplitl [HO]; · iexact HO
    iapply hO; iexact Hlev
  iintro ⟨⟨Hd, Hx⟩, Hs, HO⟩
  iapply Hk
  isplitr [HO]
  · isplitl [Hs]; · iexact Hs
    isplitl [Hd]; · iexact Hd
    iapply (pointsTo_split_subset (Finset.subset_univ (wtM k g).view.set)).2
    isplitl [Hx]; · iexact Hx
    iexact Hr
  · iexists _; iexact HO

theorem wp_loadW (c : Dev nD) (b : Fin 3) (k : Fin 8) (g : Fin 2)
    {od : Fin 3 → ℕ} {hd : ∀ a, od a + S1x1024x2048.size a ≤ S3x1024x2048.size a} (ed : od = ![b.val, 0, 0])
    {hl} {α : Type} {Q : α → sProp 𝕄} {K : Vec F S1x1024x2048 .f32 → Prog (TpuEff nD τ sig (Elt F) Λ₀ .tc) α} :
    fullW m c b k g ⊢ iprop((∀ v : Vec F S1x1024x2048 .f32, iprop(⌜shapeCast S1024x2048 v shapeCasts_S1x1024x2048_S1024x2048 = (wtM k g).view.read (Elt F) (wv m c)⌝ ∗ fullW m c b k g) -∗ wp frame (wpE (defs₀ (F := F)) 𝒱₀ (c : Thread nD τ) none) Set.univ (K v) Q) -∗ wp frame (wpE (defs₀ (F := F)) 𝒱₀ (c : Thread nD τ) none) Set.univ
      (.op (.load wB (Rect.unit (s := S3x1024x2048) od S1x1024x2048.size hd).toLoadRect hl) K) Q) := by
  subst ed
  unfold fullW hasW
  iintro ⟨Hs, ⟨%f, %hf, Hf⟩, Hx⟩ Hk
  iapply (wp_load_rect 𝒱₀ (c : Thread nD τ) none Set.univ (m := wB) (r := wsR b) (S := (wsM b).view.set) (f := f)
    (le_of_eq (View.set_reshape _ _).symm)) $$ [Hf]
  · iexact Hf
  iintro Hf
  iapply Hk
  isplitr
  · ipureintro
    exact hf
  isplitl [Hs]; · iexact Hs
  isplitl [Hf]
  · iexists f
    isplitr; · ipureintro; exact hf
    iexact Hf
  iexact Hx

end Ring

end Cert.KernelIdealProof
-- ==== Proof.KernelIdeal.Steps2.lean ====
/- The steps of the body on the accumulators and on the three tables. -/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The accumulators -/

/-- Accumulator `s` of device `c`. -/
abbrev accPts (c : Dev nD) (s : Fin 2) (f : (cc0_scratch0 : Ref sig .tc).ty.Contents (Elt F)) : sProp 𝕄 :=
  (accM s).view.loc (c : Thread nD τ) ↦[(accM s).view.set]{fullShare} f
/-- Accumulator `s` with `n` additions made. -/
def accIs (c : Dev nD) (s : Fin 2) (n : ℕ) : sProp 𝕄 :=
  iprop(∃ f, ⌜(accM s).view.read (Elt F) f = part m c s n⌝ ∗ accPts c s f)
def accAny (c : Dev nD) (s : Fin 2) : sProp 𝕄 := iprop(∃ f, accPts (F := F) c s f)

theorem acc_read (s : Fin 2) (f : (cc0_scratch0 : Ref sig .tc).ty.Contents (Elt F)) :
    (accM s).view.read (Elt F) f = shapeCast S1024x2048 ((aA.access (accR s)).read (Elt F) f) shapeCasts_S1x1024x2048_S1024x2048 := rfl

theorem wp_accLoad (c : Dev nD) (s : Fin 2) (f : (cc0_scratch0 : Ref sig .tc).ty.Contents (Elt F))
    {od : Fin 3 → ℕ} {hd : ∀ a, od a + S1x1024x2048.size a ≤ S2x1024x2048.size a} (ed : od = ![s.val, 0, 0])
    {hl} {α : Type} {Q : α → sProp 𝕄} {K : Vec F S1x1024x2048 .f32 → Prog (TpuEff nD τ sig (Elt F) Λ₀ .tc) α} :
    accPts c s f ⊢ iprop((∀ v : Vec F S1x1024x2048 .f32, iprop(⌜shapeCast S1024x2048 v shapeCasts_S1x1024x2048_S1024x2048 = (accM s).view.read (Elt F) f⌝ ∗ accPts c s f) -∗ wp frame (wpE (defs₀ (F := F)) 𝒱₀ (c : Thread nD τ) none) Set.univ (K v) Q) -∗ wp frame (wpE (defs₀ (F := F)) 𝒱₀ (c : Thread nD τ) none) Set.univ
      (.op (.load aA (Rect.unit (s := S2x1024x2048) od S1x1024x2048.size hd).toLoadRect hl) K) Q) := by
  subst ed
  iintro Hf Hk
  iapply (wp_load_rect 𝒱₀ (c : Thread nD τ) none Set.univ (m := aA) (r := accR s) (S := (accM s).view.set) (f := f)
    (le_of_eq (View.set_reshape _ _).symm)) $$ [Hf]
  · iexact Hf
  iintro Hf
  iapply Hk
  isplitr
  · ipureintro
    rfl
  iexact Hf

theorem wp_accStore (c : Dev nD) (s : Fin 2) (f : (cc0_scratch0 : Ref sig .tc).ty.Contents (Elt F))
    {od : Fin 3 → ℕ} {hd : ∀ a, od a + S1x1024x2048.size a ≤ S2x1024x2048.size a} (ed : od = ![s.val, 0, 0])
    {w : Vec F S1x1024x2048 .f32} {hx hm} {α : Type} {Q : α → sProp 𝕄} {K : PUnit → Prog (TpuEff nD τ sig (Elt F) Λ₀ .tc) α} :
    accPts c s f ⊢ iprop((iprop(∃ f', ⌜(accM s).view.read (Elt F) f' = shapeCast S1024x2048 w shapeCasts_S1x1024x2048_S1024x2048⌝ ∗ accPts c s f') -∗ wp frame (wpE (defs₀ (F := F)) 𝒱₀ (c : Thread nD τ) none) Set.univ (K ⟨⟩) Q) -∗ wp frame (wpE (defs₀ (F := F)) 𝒱₀ (c : Thread nD τ) none) Set.univ
      (.op (.store aA (Rect.unit (s := S2x1024x2048) od S1x1024x2048.size hd) w Finset.univ hx hm) K) Q) := by
  subst ed
  iintro Hf Hk
  iapply (wp_store 𝒱₀ (c : Thread nD τ) none Set.univ (m := aA) (r := accR s) (S := (accM s).view.set) (f := f)
    (le_of_eq (View.set_reshape _ _).symm)) $$ [Hf]
  · iexact Hf
  iintro Hf
  iapply Hk
  iexists _
  isplitr
  rotate_left
  · iexact Hf
  · ipureintro
    refine (acc_read s _).trans ?_
    rw [View.read_write_univ]

/-! ## The tables -/

/-- The devices the blocks go to. -/
def tgtW (c : Dev nD) : (main_v23 : Ref sig .tc).ty.Contents (Elt F) := fun i => BitVec.ofNat 32 (tgt c (i 0)).val
/-- The first columns of the windows sent. -/
def colW (c : Dev nD) : (main_v25 : Ref sig .tc).ty.Contents (Elt F) :=
  fun i => BitVec.ofNat 32 (512 * ((c.val % 4 + (i 0).val) % 4))
/-- The first columns of the halves computed. -/
def wcbW (c : Dev nD) : (main_v16 : Ref sig .tc).ty.Contents (Elt F) := fun i => BitVec.ofNat 32 (2048 * (gsel c (i 0)).val)

def tgtPts (c : Dev nD) : sProp 𝕄 := (c : Thread nD τ).loc main_v23 ↦{fullShare} (tgtW (F := F) c)
def colPts (c : Dev nD) : sProp 𝕄 := (c : Thread nD τ).loc main_v25 ↦{fullShare} (colW (F := F) c)
def wcbPts (c : Dev nD) : sProp 𝕄 := (c : Thread nD τ).loc main_v16 ↦{fullShare} (wcbW (F := F) c)

theorem wp_tgt (c : Dev nD) (j : Fin 8) {od : Fin 1 → ℕ} {hd : ∀ a, od a + S1.size a ≤ S8.size a} (ed : od = ![j.val])
    {hl} {α : Type} {Q : α → sProp 𝕄} {K : Vec F S1 .i32 → Prog (TpuEff nD τ sig (Elt F) Λ₀ .tc) α} :
    tgtPts (F := F) c ⊢ iprop((tgtPts (F := F) c -∗ wp frame (wpE (defs₀ (F := F)) 𝒱₀ (c : Thread nD τ) none) Set.univ (K fun _ => BitVec.ofNat 32 (tgt c j).val) Q) -∗ wp frame (wpE (defs₀ (F := F)) 𝒱₀ (c : Thread nD τ) none) Set.univ
      (.op (.load (Memref.whole main_v23 : Memref sig .tc .smem S8 .i32) (Rect.unit (s := S8) od S1.size hd).toLoadRect hl) K) Q) := by
  subst ed
  have hv : (((Memref.whole main_v23 : Memref sig .tc .smem S8 .i32).access (Rect.unit (s := S8) ![j.val] S1.size hd)).read (Elt F) (tgtW (F := F) c)
      : Vec F S1 .i32) = fun _ => BitVec.ofNat 32 (tgt c j).val := by
    funext x
    have hx : (Rect.unit (s := S8) ![j.val] S1.size hd).emb x = (ix1 j : S8.Idx) := by
      funext a
      apply Fin.ext
      rw [ValueKit.rect_emb_unit_val]
      match a with
      | ⟨0, _⟩ => have : (x 0).val < 1 := (x 0).isLt
                  show j.val + (x 0).val = j.val
                  omega
    show tgtW (F := F) c ((Rect.unit (s := S8) ![j.val] S1.size hd).emb x) = _
    rw [hx]; rfl
  unfold tgtPts
  iintro Hf Hk
  iapply (wp_load_rect 𝒱₀ (c : Thread nD τ) none Set.univ (m := (Memref.whole main_v23 : Memref sig .tc .smem S8 .i32))
    (r := Rect.unit (s := S8) ![j.val] S1.size hd) (S := Finset.univ) (f := tgtW (F := F) c) (Finset.subset_univ _)) $$ [Hf]
  · iexact Hf
  iintro Hf
  rw [hv]
  iapply Hk
  iexact Hf

theorem wp_col (c : Dev nD) (j : Fin 4) {od : Fin 1 → ℕ} {hd : ∀ a, od a + S1.size a ≤ S4.size a} (ed : od = ![j.val])
    {hl} {α : Type} {Q : α → sProp 𝕄} {K : Vec F S1 .i32 → Prog (TpuEff nD τ sig (Elt F) Λ₀ .tc) α} :
    colPts (F := F) c ⊢ iprop((colPts (F := F) c -∗ wp frame (wpE (defs₀ (F := F)) 𝒱₀ (c : Thread nD τ) none) Set.univ (K fun _ => BitVec.ofNat 32 (512 * ((c.val % 4 + j.val) % 4))) Q) -∗ wp frame (wpE (defs₀ (F := F)) 𝒱₀ (c : Thread nD τ) none) Set.univ
      (.op (.load (Memref.whole main_v25 : Memref sig .tc .smem S4 .i32) (Rect.unit (s := S4) od S1.size hd).toLoadRect hl) K) Q) := by
  subst ed
  have hv : (((Memref.whole main_v25 : Memref sig .tc .smem S4 .i32).access (Rect.unit (s := S4) ![j.val] S1.size hd)).read (Elt F) (colW (F := F) c)
      : Vec F S1 .i32) = fun _ => BitVec.ofNat 32 (512 * ((c.val % 4 + j.val) % 4)) := by
    funext x
    have hx : (Rect.unit (s := S4) ![j.val] S1.size hd).emb x = (ix1 j : S4.Idx) := by
      funext a
      apply Fin.ext
      rw [ValueKit.rect_emb_unit_val]
      match a with
      | ⟨0, _⟩ => have : (x 0).val < 1 := (x 0).isLt
                  show j.val + (x 0).val = j.val
                  omega
    show colW (F := F) c ((Rect.unit (s := S4) ![j.val] S1.size hd).emb x) = _
    rw [hx]; rfl
  unfold colPts
  iintro Hf Hk
  iapply (wp_load_rect 𝒱₀ (c : Thread nD τ) none Set.univ (m := (Memref.whole main_v25 : Memref sig .tc .smem S4 .i32))
    (r := Rect.unit (s := S4) ![j.val] S1.size hd) (S := Finset.univ) (f := colW (F := F) c) (Finset.subset_univ _)) $$ [Hf]
  · iexact Hf
  iintro Hf
  rw [hv]
  iapply Hk
  iexact Hf

theorem wp_wcb (c : Dev nD) (j : Fin 2) {od : Fin 1 → ℕ} {hd : ∀ a, od a + S1.size a ≤ S2.size a} (ed : od = ![j.val])
    {hl} {α : Type} {Q : α → sProp 𝕄} {K : Vec F S1 .i32 → Prog (TpuEff nD τ sig (Elt F) Λ₀ .tc) α} :
    wcbPts (F := F) c ⊢ iprop((wcbPts (F := F) c -∗ wp frame (wpE (defs₀ (F := F)) 𝒱₀ (c : Thread nD τ) none) Set.univ (K fun _ => BitVec.ofNat 32 (2048 * (gsel c j).val)) Q) -∗ wp frame (wpE (defs₀ (F := F)) 𝒱₀ (c : Thread nD τ) none) Set.univ
      (.op (.load (Memref.whole main_v16 : Memref sig .tc .smem S2 .i32) (Rect.unit (s := S2) od S1.size hd).toLoadRect hl) K) Q) := by
  subst ed
  have hv : (((Memref.whole main_v16 : Memref sig .tc .smem S2 .i32).access (Rect.unit (s := S2) ![j.val] S1.size hd)).read (Elt F) (wcbW (F := F) c)
      : Vec F S1 .i32) = fun _ => BitVec.ofNat 32 (2048 * (gsel c j).val) := by
    funext x
    have hx : (Rect.unit (s := S2) ![j.val] S1.size hd).emb x = (ix1 j : S2.Idx) := by
      funext a
      apply Fin.ext
      rw [ValueKit.rect_emb_unit_val]
      match a with
      | ⟨0, _⟩ => have : (x 0).val < 1 := (x 0).isLt
                  show j.val + (x 0).val = j.val
                  omega
    show wcbW (F := F) c ((Rect.unit (s := S2) ![j.val] S1.size hd).emb x) = _
    rw [hx]; rfl
  unfold wcbPts
  iintro Hf Hk
  iapply (wp_load_rect 𝒱₀ (c : Thread nD τ) none Set.univ (m := (Memref.whole main_v16 : Memref sig .tc .smem S2 .i32))
    (r := Rect.unit (s := S2) ![j.val] S1.size hd) (S := Finset.univ) (f := wcbW (F := F) c) (Finset.subset_univ _)) $$ [Hf]
  · iexact Hf
  iintro Hf
  rw [hv]
  iapply Hk
  iexact Hf

end Cert.KernelIdealProof
-- ==== Proof.KernelIdeal.Meet.lean ====
/- The steps of the body on which devices meet: the barrier, a block sent, a block that arrives, and the device's
    own block. -/
module

public import proofs.«01_k».proof.Proof.KernelIdeal.Steps2

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The meeting cells and their records -/

def barEmb : Dev nD ↪ GSem nD τ sig := ⟨fun c => barCell c, fun _ _ h => congrArg (fun g : GSem nD τ sig => g.1.1) h⟩
theorem sendS_inj : Function.Injective sendS := by decide
theorem recvS_inj : Function.Injective recvS := by decide
theorem dma_inj : Function.Injective (SemLoc.dma : DmaSem sig → SemLoc sig) := fun _ _ h => SemLoc.dma.inj h
def sendEmb : Dev nD × Fin 8 ↪ GSem nD τ sig := ⟨fun x => sendCell x.1 x.2, fun _ _ h =>
  Prod.ext (congrArg (fun g : GSem nD τ sig => g.1.1) h) (sendS_inj (dma_inj (congrArg Prod.snd h)))⟩
def recvEmb : Dev nD × Dev nD ↪ GSem nD τ sig := ⟨fun x => recvCell x.1 x.2, fun _ _ h =>
  Prod.ext (congrArg (fun g : GSem nD τ sig => g.1.1) h) (recvS_inj (dma_inj (congrArg Prod.snd h)))⟩
abbrev barCells : Finset (GSem nD τ sig) := Finset.univ.map barEmb
abbrev sendCells : Finset (GSem nD τ sig) := Finset.univ.map sendEmb
abbrev recvCells : Finset (GSem nD τ sig) := Finset.univ.map recvEmb
/-- The cells of the call's own semaphores. -/
abbrev scCells : Finset (GSem nD τ sig) := sendCells ∪ recvCells

theorem bar_mem (c : Dev nD) : barCell c ∈ (barCells ∪ scCells : Finset (GSem nD τ sig)) :=
  Finset.mem_union_left _ (Finset.mem_map_of_mem barEmb (Finset.mem_univ c))
theorem send_mem (c : Dev nD) (k : Fin 8) : sendCell c k ∈ (barCells ∪ scCells : Finset (GSem nD τ sig)) :=
  Finset.mem_union_right _ (Finset.mem_union_left _ (Finset.mem_map_of_mem sendEmb (Finset.mem_univ (c, k))))
theorem recv_mem (c p : Dev nD) : recvCell c p ∈ (barCells ∪ scCells : Finset (GSem nD τ sig)) :=
  Finset.mem_union_right _ (Finset.mem_union_right _ (Finset.mem_map_of_mem recvEmb (Finset.mem_univ (c, p))))

/-- The records every device may consult. -/
def recs (κ : GSem nD τ sig → ℕ) : sProp 𝕄 :=
  iprop((bigSep (barCells ∪ scCells) fun g => cellInv ER (Rd m) (κ g) g) ∗ bigSep barCells fun g => reached ER g 0)
instance recs_persistent (κ : GSem nD τ sig → ℕ) : BI.Persistent (recs m κ) := by unfold recs; infer_instance
theorem inv_at (κ : GSem nD τ sig → ℕ) {g : GSem nD τ sig} (hg : g ∈ (barCells ∪ scCells : Finset (GSem nD τ sig))) :
    (bigSep (barCells ∪ scCells) fun g => (cellInv ER (Rd m) (κ g) g : sProp 𝕄)) ⊢ cellInv ER (Rd m) (κ g) g := bigSep_elim hg
theorem reached_at (c : Dev nD) : (bigSep barCells fun g => (reached ER g 0 : sProp 𝕄)) ⊢ reached ER (barCell c) 0 :=
  bigSep_elim (Finset.mem_map_of_mem barEmb (Finset.mem_univ c))
theorem recs_at (κ : GSem nD τ sig → ℕ) {g : GSem nD τ sig} (hg : g ∈ (barCells ∪ scCells : Finset (GSem nD τ sig))) :
    recs m κ ⊢ cellInv ER (Rd m) (κ g) g := by
  unfold recs
  iintro ⟨H, -⟩
  iapply (inv_at m κ hg) $$ H
theorem recs_bar (κ : GSem nD τ sig → ℕ) (c : Dev nD) : recs m κ ⊢ reached ER (barCell c) 0 := by
  unfold recs
  iintro ⟨-, H⟩
  iapply (reached_at (F := F) c) $$ H

/-- A cell whose one round is over gives its counter back. -/
theorem close_one (κ : ℕ) (g : GSem nD τ sig) :
    iprop(cellInv ER (Rd m) κ g ∗ atPos ER g 1 ∅ 0) ⊢ (iprop(|={Set.univ}=> semVal g 0) : sProp 𝕄) :=
  Rounds.cell_close ER (Rd m) (Set.mem_univ _) (fun h => h) (R := 1) (duties_later m g)
/-- A cell of no duty gives its counter back at once. -/
theorem close_none (κ : ℕ) (g : GSem nD τ sig) (h : (Rd m).duties g 0 = ∅) :
    iprop(cellInv ER (Rd m) κ g ∗ atPos ER g 0 ∅ 0) ⊢ (iprop(|={Set.univ}=> semVal g 0) : sProp 𝕄) :=
  Rounds.cell_close ER (Rd m) (Set.mem_univ _) (fun h => h) (R := 0)
    (fun r _ => by rcases Nat.eq_zero_or_pos r with rfl | hr; exact h; exact duties_later m g r hr)

/-! ## What lands -/

theorem rowM_emb0 (p : Dev nD) (x : S1024x512.Idx) : ((rowM p).view.emb x 0).val = 1024 * p.val + (x 0).val := by
  show ((Rect.unit (s := S8192x512) ![1024 * p.val, 0] S1024x512.size (row_inb p)).emb x 0).val = _
  rw [ValueKit.rect_emb_unit_val]; rfl
theorem rowM_emb1 (p : Dev nD) (x : S1024x512.Idx) : ((rowM p).view.emb x 1).val = (x 1).val := by
  show ((Rect.unit (s := S8192x512) ![1024 * p.val, 0] S1024x512.size (row_inb p)).emb x 1).val = _
  rw [ValueKit.rect_emb_unit_val]; exact Nat.zero_add _

theorem winM_emb (s : Fin 2) (q : Fin 4) (x : S1024x512.Idx) (a : Fin 3) :
    ((winM s q).view.emb x a).val = (![s.val, (x 0).val, 512 * q.val + (x 1).val] : Fin 3 → ℕ) a := by
  have hx : Shape.reshapeEquiv (Shape.Squeezes.numel_eq squeezes_S1x1024x512_S1024x512) x
      = (ix3 (⟨0, Nat.one_pos⟩ : Fin 1) (x 0) (x 1) : S1x1024x512.Idx) :=
    (congrArg _ (eq_ix2 x)).trans (reshapeEquiv_ix2_1ab (a := 1024) (b := 512) _ (x 0) (x 1))
  show ((Rect.unit (s := S2x1024x2048) ![s.val, 0, 512 * q.val] S1x1024x512.size (win_inb s q)).emb
    (Shape.reshapeEquiv (Shape.Squeezes.numel_eq squeezes_S1x1024x512_S1024x512) x) a).val = _
  rw [hx, ValueKit.rect_emb_unit_val]
  match a with
  | ⟨0, _⟩ => rfl
  | ⟨1, _⟩ => exact Nat.zero_add _
  | ⟨2, _⟩ => rfl

/-- Window `place p` of device `c`, written over the rows `c` of device `p`, is that device's result there. -/
theorem landed (c p : Dev nD) (s : Fin 2) (q : Fin 4) (hs : half c p = s) (hq : place p = q)
    (fd : (main_v26 : Ref sig .tc).ty.Contents (Elt F)) :
    ∀ i ∈ (rowM c).view.set, (rowM c).view.write (Elt F) fd ((winM s q).view.read (Elt F) (accF m c)) Finset.univ i = outF m p i := by
  subst hs hq
  intro i hi
  obtain ⟨x, -, rfl⟩ := Finset.mem_map.mp hi
  rw [View.write_emb_of_mem (h := Finset.mem_univ x), View.read_apply]
  have e0 := rowM_emb0 c x
  have e1 := rowM_emb1 c x
  have hx0 : (x 0).val < 1024 := (x 0).isLt
  have hd : (⟨((rowM c).view.emb x 0).val / 1024, by rw [e0]; have := c.isLt; change c.val < 8 at this; show _ < 8; omega⟩ : Dev nD) = c := by
    apply Fin.ext; show ((rowM c).view.emb x 0).val / 1024 = c.val; rw [e0]; omega
  unfold accF outF
  have hs : (winM (half c p) (place p)).view.emb x 0 = half c p := Fin.ext (winM_emb _ _ x 0)
  have key : ∀ (d : Dev nD) (h : d = c) (s : Fin 2) (hs : s = half c p) (j j' : S1024x2048.Idx) (hj : j = j'),
      part m c s 7 j = part m d (half d p) 7 j' := by
    intro d h s hs j j' hj; subst h; subst hs; subst hj; rfl
  refine key _ hd _ hs _ _ ?_
  funext a
  match a with
  | ⟨0, _⟩ =>
    apply Fin.ext
    show ((winM (half c p) (place p)).view.emb x 1).val = ((rowM c).view.emb x 0).val % 1024
    rw [e0, winM_emb]; show (x 0).val = _; omega
  | ⟨1, _⟩ =>
    apply Fin.ext
    show ((winM (half c p) (place p)).view.emb x 2).val = 512 * (place p).val + ((rowM c).view.emb x 1).val
    rw [e1, winM_emb]; rfl

theorem half_tgt (c : Dev nD) (k : Fin 8) : half c (tgt c k) = slotOf k := by revert c k; decide
theorem place_tgt (c : Dev nD) (k : Fin 8) : place (tgt c k) = winOf c k := by revert c k; decide

/-! ## The barrier -/

theorem wp_sig (κ : GSem nD τ sig → ℕ) (c p : Dev nD) (n : ℕ) (h : (List.finRange 8).drop n = p :: (List.finRange 8).drop (n + 1))
    {d : Dev nD} (e : d = p) {α : Type} {Q : α → sProp 𝕄} {K : PUnit → Prog (TpuEff nD τ sig (Elt F) Λ₀ .tc) α} :
    iprop(recs m κ ∗ ow c (oweB c n) ∗ dutyTok ER (barCell p) 0 c ∗ (∃ f, rowPts c p f) ∗ reached ER (recvCell c p) 0)
      ⊢ iprop((ow c (oweB c (n + 1)) -∗ wp frame (wpE (defs₀ (F := F)) 𝒱₀ (c : Thread nD τ) none) Set.univ (K ⟨⟩) Q) -∗ wp frame (wpE (defs₀ (F := F)) 𝒱₀ (c : Thread nD τ) none) Set.univ
        (.op (.semSignal (d : Thread nD τ) barS (1#32).toInt) K) Q) := by
  subst e
  unfold ow
  iintro ⟨#HI, ⟨%Wt, HO⟩, Ht, Hr, Hc⟩ Hk
  iapply (Rounds.wp_signal 𝒱₀ ER (Rd m) (c : Thread nD τ) none (dst := (d : Thread nD τ)) (κ := κ (barCell d)) (d := c)
      (by rw [duties_bar]; exact Finset.mem_univ _) ((amount_bar m d c).trans (by decide)) () (oweB c (n + 1)) (oweB_succ c n d h)) $$ [HO Ht Hr Hc]
  · isplitr; · iapply (recs_at m κ (bar_mem d)); iexact HI
    isplitl [HO]; · iexact HO
    isplitl [Ht]; · iexact Ht
    isplitl
    · rw [payload_bar]; unfold barPay
      isplitl [Hr]; · iexact Hr
      iexact Hc
    · iapply (recs_bar m κ d); iexact HI
  iintro HO
  iapply Hk
  iexists _; iexact HO

theorem wp_barWait (κ : GSem nD τ sig → ℕ) (c : Dev nD) {α : Type} {Q : α → sProp 𝕄} {K : PUnit → Prog (TpuEff nD τ sig (Elt F) Λ₀ .tc) α} :
    iprop(recs m κ ∗ ow c (oweS c 0) ∗ levAts L lv ∗ cred (tallyAt (barCell c) () 8) ∗ atPos ER (barCell c) 0 ∅ 0)
      ⊢ iprop((iprop((bigSep Finset.univ fun d => barPay c d) ∗ semVal (barCell c) 0 ∗ ow c (oweS c 0)) -∗ wp frame (wpE (defs₀ (F := F)) 𝒱₀ (c : Thread nD τ) none) Set.univ (K ⟨⟩) Q) -∗ wp frame (wpE (defs₀ (F := F)) 𝒱₀ (c : Thread nD τ) none) Set.univ
        (.op (.semWait barS (8#32).toInt) K) Q) := by
  unfold ow
  iintro ⟨#HI, ⟨%Wt, HO⟩, #Hlev, Hc, Ha⟩ Hk
  iapply (Rounds.wp_wait_rest_token 𝒱₀ ER (Rd m) (c : Thread nD τ) none (κ := κ (barCell c))
      (wpE_semWait_eq 𝒱₀ (c : Thread nD τ) none Set.univ) (Set.mem_univ _) () (O := oweS c 0) (W := Wt) (R := 0) (m := 0) (T := ∅)
      (by rw [expect_bar]; decide)) $$ [Hc HO Ha]
  · isplitr; · iapply (recs_at m κ (bar_mem c)); iexact HI
    isplitl [Hc]; · iexact Hc
    isplitl [HO]; · iexact HO
    isplitr; · iapply (mayWait_low c (.reg barS) (by decide) 0); iexact Hlev
    iexact Ha
  iintro ⟨HO, Ha, -, Hp⟩
  ihave Hp := (Entails.of_eq (rest_bar m c)) $$ Hp
  iapply (fupd_wp _ _ _ _ _)
  imod (close_one m (κ (barCell c)) (barCell c)) $$ [Ha] with Hs
  · isplitr; · iapply (recs_at m κ (bar_mem c)); iexact HI
    iexact Ha
  imodintro
  iapply Hk
  isplitl [Hp]; · iexact Hp
  isplitl [Hs]; · iexact Hs
  iexists _; iexact HO

/-! ## A block sent, and back -/

/-- What the sending of block `k` takes besides the window: the rows it fills, and the two duties. -/
def sendRes (c : Dev nD) (k : Fin 8) : sProp 𝕄 :=
  iprop((∃ f, rowPts (F := F) (tgt c k) c f) ∗ reached ER (recvCell (tgt c k) c) 0 ∗ dutyTok ER (recvCell (tgt c k) c) 0 c
    ∗ reached ER (sendCell c k) 0 ∗ dutyTok ER (sendCell c k) 0 c)

theorem wp_sendBlk (κ : GSem nD τ sig → ℕ) (c : Dev nD) (k : Fin 8) (hk : k ≠ 4) (O O' : CellTallies nD τ sig Unit)
    (hO : O = O' + tallyAt (recvCell (tgt c k) c) () N)
    {oc : Fin 3 → ℕ} {hc : ∀ a, oc a + S1x1024x512.size a ≤ S2x1024x2048.size a} (ec : oc = ![(slotOf k).val, 0, 512 * (winOf c k).val])
    {od : Fin 2 → ℕ} {hd : ∀ a, od a + S1024x512.size a ≤ S8192x512.size a} (ed : od = ![1024 * c.val, 0])
    {os : Fin 1 → ℕ} {hs : ∀ a, os a + S1.size a ≤ S8.size a} (es : os = ![k.val])
    {ov : Fin 1 → ℕ} {hv : ∀ a, ov a + S1.size a ≤ S8.size a} (ev : ov = ![c.val])
    {p : Dev nD} (ep : p = tgt c k) {h0 h1 h2 h3}
    {α : Type} {Q : α → sProp 𝕄} {K : PUnit → Prog (TpuEff nD τ sig (Elt F) Λ₀ .tc) α} :
    iprop(recs m κ ∗ ow c O ∗ winPts c (slotOf k) (winOf c k) (accF m c) ∗ sendRes c k)
      ⊢ iprop((iprop(cred (tallyAt (sendCell c k) () N) ∗ ow c O') -∗ wp frame (wpE (defs₀ (F := F)) 𝒱₀ (c : Thread nD τ) none) Set.univ (K ⟨⟩) Q) -∗ wp frame (wpE (defs₀ (F := F)) 𝒱₀ (c : Thread nD τ) none) Set.univ
        (.op (.enqueueDma ((aA.slice (Rect.unit (s := S2x1024x2048) oc S1x1024x512.size hc) (fun _ => rfl)).squeeze S1024x512 squeezes_S1x1024x512_S1024x512)
          (.remote (Dev.tc p) (oA.slice (Rect.unit (s := S8192x512) od S1024x512.size hd) (fun _ => rfl))
            (.dma ((cc0_scratch5.slice (Rect.unit (s := S8) os S1.size hs)).squeeze S_ squeezes_S1_S_).sem) h0)
          (.dma ((cc0_scratch6.slice (Rect.unit (s := S8) ov S1.size hv)).squeeze S_ squeezes_S1_S_).sem) h1 h2 h3) K) Q) := by
  subst ec ed ep
  revert h3
  rw [sendS_eq k os hs es, recvS_eq c ov hv ev]
  intro h3
  unfold ow sendRes
  iintro ⟨#HI, ⟨%Wt, HO⟩, Hw, ⟨%f, Hr⟩, Hrr, Hrt, Hsr, Hst⟩ Hk
  have hne : c ≠ tgt c k := fun h => hk ((tgt_eq_self c k).mp h.symm)
  iapply (Rounds.wp_send_pointsTo 𝒱₀ ER (Rd m) (c : Thread nD τ) none (κ₁ := κ (sendCell c k)) (κ₂ := κ (recvCell (tgt c k) c))
    (c' := (tgt c k : Thread nD τ)) (src := winM (slotOf k) (winOf c k)) (dst := rowM c) (sS := .dma (sendS k)) (sem := .dma (recvS c))
    (r₁ := 0) (r₂ := 0) (d₁ := c) (d₂ := c) (q := fullShare) (fs := accF m c) (fd := f)
    (by rw [duties_send m c k hk]; exact Finset.mem_singleton_self _) (by rw [duties_recv m (tgt c k) c hne]; exact Finset.mem_singleton_self _)
    () () N (N_row c) (amount_send m c k c) (amount_recv m (tgt c k) c c) O' hO (W := Wt)
    (by rw [payload_send]; exact BI.Entails.refl _)
    (by rw [payload_recv]; unfold recvPay
        exact Entails.of_eq (pointsTo_congr (landed m c (tgt c k) (slotOf k) (winOf c k) (half_tgt c k) (place_tgt c k) f)))) $$ [Hw HO Hr Hrr Hrt Hsr Hst]
  · isplitr; · iapply (recs_at m κ (send_mem c k)); iexact HI
    isplitr; · iapply (recs_at m κ (recv_mem (tgt c k) c)); iexact HI
    isplitl [Hw]; · iexact Hw
    isplitl [Hr]; · iexact Hr
    isplitl [HO]; · iexact HO
    isplitl [Hst]; · iexact Hst
    isplitl [Hsr]; · iexact Hsr
    isplitl [Hrt]; · iexact Hrt
    iexact Hrr
  iintro ⟨Hc, HO⟩
  iapply Hk
  isplitl [Hc]; · iexact Hc
  iexists _; iexact HO

theorem wp_sendWait (κ : GSem nD τ sig → ℕ) (c : Dev nD) (k : Fin 8) (hk : k ≠ 4)
    {os : Fin 1 → ℕ} {hs : ∀ a, os a + S1.size a ≤ S8.size a} (es : os = ![k.val])
    {sp sp' : Space} {src : Memref sig .tc sp S1024x512 .f32} {dst : Memref sig .tc sp' S1024x512 .f32} (hN : dst.view.dmaCredit = N) {h1 h2}
    {α : Type} {Q : α → sProp 𝕄} {K : PUnit → Prog (TpuEff nD τ sig (Elt F) Λ₀ .tc) α} :
    iprop(recs m κ ∗ ow c 0 ∗ cred (tallyAt (sendCell c k) () N) ∗ atPos ER (sendCell c k) 0 ∅ 0)
      ⊢ iprop((iprop(sendPay m c k ∗ semVal (sendCell c k) 0 ∗ ow c 0) -∗ wp frame (wpE (defs₀ (F := F)) 𝒱₀ (c : Thread nD τ) none) Set.univ (K ⟨⟩) Q) -∗ wp frame (wpE (defs₀ (F := F)) 𝒱₀ (c : Thread nD τ) none) Set.univ
        (.op (.waitDma2 ((cc0_scratch5.slice (Rect.unit (s := S8) os S1.size hs)).squeeze S_ squeezes_S1_S_).sem src dst h1 h2) K) Q) := by
  rw [sendS_eq k os hs es]
  unfold ow
  iintro ⟨#HI, ⟨%Wt, HO⟩, Hc, Ha⟩ Hk
  iapply (Rounds.wp_wait_rest_token 𝒱₀ ER (Rd m) (c : Thread nD τ) none (κ := κ (sendCell c k))
      (wpE_waitDma2_eq 𝒱₀ (c : Thread nD τ) none Set.univ) (Set.mem_univ _) () (O := 0) (W := Wt) (R := 0) (m := 0) (T := ∅)
      (by rw [Nat.zero_add, expect_send m c k hk]; exact hN)) $$ [Hc HO Ha]
  · isplitr; · iapply (recs_at m κ (send_mem c k)); iexact HI
    isplitl [Hc]; · rw [hN]; iexact Hc
    isplitl [HO]; · iexact HO
    isplitr; · rw [MayWait_zero]; iempintro
    iexact Ha
  iintro ⟨HO, Ha, -, Hp⟩
  ihave Hp := (Entails.of_eq (rest_send m c k hk)) $$ Hp
  iapply (fupd_wp _ _ _ _ _)
  imod (close_one m (κ (sendCell c k)) (sendCell c k)) $$ [Ha] with Hs
  · isplitr; · iapply (recs_at m κ (send_mem c k)); iexact HI
    iexact Ha
  imodintro
  iapply Hk
  isplitl [Hp]; · iexact Hp
  isplitl [Hs]; · iexact Hs
  iexists _; iexact HO

theorem wp_recvWait (κ : GSem nD τ sig → ℕ) (c p : Dev nD) (hp : p ≠ c)
    {os : Fin 1 → ℕ} {hs : ∀ a, os a + S1.size a ≤ S8.size a} (es : os = ![p.val])
    {sp sp' : Space} {src : Memref sig .tc sp S1024x512 .f32} {dst : Memref sig .tc sp' S1024x512 .f32} (hN : dst.view.dmaCredit = N) {h1 h2}
    {α : Type} {Q : α → sProp 𝕄} {K : PUnit → Prog (TpuEff nD τ sig (Elt F) Λ₀ .tc) α} :
    iprop(recs m κ ∗ ow c 0 ∗ cred (tallyAt (recvCell c p) () N) ∗ atPos ER (recvCell c p) 0 ∅ 0)
      ⊢ iprop((iprop(recvPay m c p ∗ semVal (recvCell c p) 0 ∗ ow c 0) -∗ wp frame (wpE (defs₀ (F := F)) 𝒱₀ (c : Thread nD τ) none) Set.univ (K ⟨⟩) Q) -∗ wp frame (wpE (defs₀ (F := F)) 𝒱₀ (c : Thread nD τ) none) Set.univ
        (.op (.waitDma2 ((cc0_scratch6.slice (Rect.unit (s := S8) os S1.size hs)).squeeze S_ squeezes_S1_S_).sem src dst h1 h2) K) Q) := by
  rw [recvS_eq p os hs es]
  unfold ow
  iintro ⟨#HI, ⟨%Wt, HO⟩, Hc, Ha⟩ Hk
  iapply (Rounds.wp_wait_rest_token 𝒱₀ ER (Rd m) (c : Thread nD τ) none (κ := κ (recvCell c p))
      (wpE_waitDma2_eq 𝒱₀ (c : Thread nD τ) none Set.univ) (Set.mem_univ _) () (O := 0) (W := Wt) (R := 0) (m := 0) (T := ∅)
      (by rw [Nat.zero_add, expect_recv m c p hp]; exact hN)) $$ [Hc HO Ha]
  · isplitr; · iapply (recs_at m κ (recv_mem c p)); iexact HI
    isplitl [Hc]; · rw [hN]; iexact Hc
    isplitl [HO]; · iexact HO
    isplitr; · rw [MayWait_zero]; iempintro
    iexact Ha
  iintro ⟨HO, Ha, -, Hp⟩
  ihave Hp := (Entails.of_eq (rest_recv m c p hp)) $$ Hp
  iapply (fupd_wp _ _ _ _ _)
  imod (close_one m (κ (recvCell c p)) (recvCell c p)) $$ [Ha] with Hs
  · isplitr; · iapply (recs_at m κ (recv_mem c p)); iexact HI
    iexact Ha
  imodintro
  iapply Hk
  isplitl [Hp]; · iexact Hp
  isplitl [Hs]; · iexact Hs
  iexists _; iexact HO

/-! ## The device's own block -/

theorem half_self (c : Dev nD) : half c c = 1 := by revert c; decide

/-- The own block on its way. -/
def flyO (c : Dev nD) : sProp 𝕄 :=
  Flight EC (c : Thread nD τ) (SemLoc.dma locS) () N iprop(rowPts c c (outF m c) ∗ winPts c 1 (place c) (accF m c))

theorem landO (c : Dev nD) (f : (main_v26 : Ref sig .tc).ty.Contents (Elt F)) :
    iprop(((rowM c).view.loc (c : Thread nD τ) ↦[(rowM c).view.set]{fullShare}
          ((rowM c).view.write (Elt F) f ((winM 1 (place c)).view.read (Elt F) (accF m c)) Finset.univ))
        ∗ winPts c 1 (place c) (accF m c))
      ⊢ (iprop(rowPts c c (outF m c) ∗ winPts c 1 (place c) (accF m c)) : sProp 𝕄) :=
  sep_mono_left (Entails.of_eq (pointsTo_congr (landed m c c 1 (place c) (half_self c) rfl f)))

theorem wp_ownCopy (c : Dev nD)
    {oc : Fin 3 → ℕ} {hc : ∀ a, oc a + S1x1024x512.size a ≤ S2x1024x2048.size a} (ec : oc = ![1, 0, 512 * (place c).val])
    {od : Fin 2 → ℕ} {hd : ∀ a, od a + S1024x512.size a ≤ S8192x512.size a} (ed : od = ![1024 * c.val, 0]) {h1 h2 h3}
    {α : Type} {Q : α → sProp 𝕄} {K : PUnit → Prog (TpuEff nD τ sig (Elt F) Λ₀ .tc) α} :
    iprop(semVal ((c : Thread nD τ), SemLoc.dma locS) 0 ∗ winPts c 1 (place c) (accF m c) ∗ (∃ f, rowPts c c f))
      ⊢ iprop((flyO m c -∗ wp frame (wpE (defs₀ (F := F)) 𝒱₀ (c : Thread nD τ) none) Set.univ (K ⟨⟩) Q) -∗ wp frame (wpE (defs₀ (F := F)) 𝒱₀ (c : Thread nD τ) none) Set.univ
        (.op (.enqueueDma ((aA.slice (Rect.unit (s := S2x1024x2048) oc S1x1024x512.size hc) (fun _ => rfl)).squeeze S1024x512 squeezes_S1x1024x512_S1024x512)
          (.here (oA.slice (Rect.unit (s := S8192x512) od S1024x512.size hd) (fun _ => rfl))) (.dma cc0_scratch7.sem) h1 h2 h3) K) Q) := by
  subst ec ed
  revert h3
  rw [locS_eq]
  intro h3
  unfold flyO
  iintro ⟨Hs, Hw, ⟨%f, Hf⟩⟩ Hk
  iapply (wp_dmaLocal EC 𝒱₀ (c : Thread nD τ) none () N (N_row c) N_pos (Finset.Subset.refl _)
    (sm := .dma locS) (src := winM 1 (place c)) (dst := rowM c) (fs := accF m c) (fd := f)) $$ [Hs Hf Hw]
  · isplitl [Hw]; · iexact Hw
    isplitl [Hf]; · iexact Hf
    iexact Hs
  iintro HF
  iapply Hk
  iapply (Flight_mono EC (c : Thread nD τ) (landO m c f)) $$ HF

theorem wp_ownWait (c : Dev nD) {sp sp' : Space} {src : Memref sig .tc sp S1024x512 .f32}
    {od : Fin 2 → ℕ} {hd : ∀ a, od a + S1024x512.size a ≤ S8192x512.size a} (ed : od = ![1024 * c.val, 0]) {h1 h2}
    {α : Type} {Q : α → sProp 𝕄} {K : PUnit → Prog (TpuEff nD τ sig (Elt F) Λ₀ .tc) α} :
    iprop(flyO m c ∗ ow c 0)
      ⊢ iprop((iprop(rowPts c c (outF m c) ∗ winPts c 1 (place c) (accF m c) ∗ semVal ((c : Thread nD τ), SemLoc.dma locS) 0 ∗ ow c 0) -∗ wp frame (wpE (defs₀ (F := F)) 𝒱₀ (c : Thread nD τ) none) Set.univ (K ⟨⟩) Q) -∗ wp frame (wpE (defs₀ (F := F)) 𝒱₀ (c : Thread nD τ) none) Set.univ
        (.op (.waitDma2 cc0_scratch7.sem src (oA.slice (Rect.unit (s := S8192x512) od S1024x512.size hd) (fun _ => rfl)) h1 h2) K) Q) := by
  subst ed
  rw [locS_eq]
  unfold flyO ow
  iintro ⟨HF, ⟨%Wt, HO⟩⟩ Hk
  iapply (wp_waitLocalO EC 𝒱₀ (c : Thread nD τ) none (dstw := rowM c) () (N_row c)) $$ [HF HO]
  · isplitl [HF]; · iexact HF
    isplitl [HO]; · iexact HO
    rw [MayWait_zero]; iempintro
  iintro ⟨⟨Hd, Hw⟩, Hs, HO⟩
  iapply Hk
  isplitl [Hd]; · iexact Hd
  isplitl [Hw]; · iexact Hw
  isplitl [Hs]; · iexact Hs
  iexists _; iexact HO

end Cert.KernelIdealProof
-- ==== Proof.KernelIdeal.Words.lean ====
/- The body's conditions and offsets at a grid point, and the table words' facts. -/
module

public import proofs.«01_k».proof.Proof.KernelIdeal.Meet

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A grid point -/

theorem co_sum : ∀ t : Fin grid0.N, 8 * (grid0.coords t 0).val + (grid0.coords t 1).val = t.val := by decide +kernel
theorem co_0 : ∀ t : Fin grid0.N, (grid0.coords t 0).val = t.val / 8 := by decide +kernel
theorem co_1 : ∀ t : Fin grid0.N, (grid0.coords t 1).val = t.val % 8 := by decide +kernel
theorem N_lt (t : Fin grid0.N) : t.val < 16 := lt_of_lt_of_eq t.isLt N_0

theorem cond1_iff : ∀ t : Fin grid0.N, k0_cond1 (grid0.coords t) = 1#1 ↔ t.val = 0 := by decide +kernel
theorem cond2_iff : ∀ t : Fin grid0.N, k0_cond2 (grid0.coords t) = 1#1 ↔ t.val + 2 < 16 := by decide +kernel
theorem cond3_iff : ∀ t : Fin grid0.N, k0_cond3 (grid0.coords t) = 1#1 ↔ t.val % 8 = 0 := by decide +kernel
theorem cond4_iff : ∀ t : Fin grid0.N, k0_cond4 (grid0.coords t) = 1#1 ↔ t.val % 8 ≠ 0 := by decide +kernel
theorem cond5_iff : ∀ t : Fin grid0.N, k0_cond5 (grid0.coords t) = 1#1 ↔ 8 ≤ t.val ∧ t.val < 12 := by decide +kernel
theorem cond6_iff : ∀ t : Fin grid0.N, k0_cond6 (grid0.coords t) = 1#1 ↔ t.val = 15 := by decide +kernel

/-- The slot, the tile and the half of step `n`. -/
def slotN (n : ℕ) : Fin 3 := ⟨n % 3, Nat.mod_lt _ (by decide)⟩
def tileN (n : ℕ) : Fin 8 := ⟨n % 8, Nat.mod_lt _ (by decide)⟩
def halfN (n : ℕ) : Fin 2 := ⟨n / 8 % 2, Nat.mod_lt _ (by decide)⟩

theorem off14_at : ∀ t : Fin grid0.N, k0_off14 (grid0.coords t) = ![(slotN t.val).val] := by decide +kernel
theorem off15_at : ∀ t : Fin grid0.N, k0_off15 (grid0.coords t) = ![(slotN t.val).val, 0, 0] := by decide +kernel
theorem off16_at : ∀ t : Fin grid0.N, k0_off16 (grid0.coords t) = ![(slotN t.val).val, 0, 0] := by decide +kernel
theorem off17_at : ∀ t : Fin grid0.N, k0_off17 (grid0.coords t) = ![(slotN (t.val + 2)).val] := by decide +kernel
theorem off18_at : ∀ t : Fin grid0.N, k0_off18 (grid0.coords t) = ![(slotN (t.val + 2)).val, 0, 0] := by decide +kernel
theorem off19_at : ∀ t : Fin grid0.N, t.val + 2 < 16 → k0_off19 (grid0.coords t) = ![0, 1024 * (tileN (t.val + 2)).val] := by decide +kernel
theorem off20_at : ∀ t : Fin grid0.N, t.val + 2 < 16 → k0_off20 (grid0.coords t) = ![(halfN (t.val + 2)).val] := by decide +kernel
theorem off21_at : ∀ t : Fin grid0.N, k0_off21 (grid0.coords t) = ![(slotN (t.val + 2)).val] := by decide +kernel
theorem off22_at : ∀ t : Fin grid0.N, k0_off22 (grid0.coords t) = ![(slotN (t.val + 2)).val, 0, 0] := by decide +kernel
theorem off23_at : ∀ t : Fin grid0.N, t.val + 2 < 16 → ∀ g : Fin 2, k0_off23 (grid0.coords t) (BitVec.ofNat 32 (2048 * g.val)) = ![1024 * (tileN (t.val + 2)).val, 2048 * g.val] := by decide +kernel
theorem off24_at : ∀ t : Fin grid0.N, k0_off24 (grid0.coords t) = ![(slotN t.val).val, 0, 0] := by decide +kernel
theorem off25_at : ∀ t : Fin grid0.N, k0_off25 (grid0.coords t) = ![(slotN t.val).val, 0, 0] := by decide +kernel
theorem off26_at : ∀ t : Fin grid0.N, k0_off26 (grid0.coords t) = ![(halfN t.val).val, 0, 0] := by decide +kernel
theorem off27_at : ∀ t : Fin grid0.N, k0_off27 (grid0.coords t) = ![(halfN t.val).val, 0, 0] := by decide +kernel
theorem off28_at : ∀ t : Fin grid0.N, k0_off28 (grid0.coords t) = ![t.val % 8] := by decide +kernel
theorem off29_at : ∀ t : Fin grid0.N, k0_off29 (grid0.coords t) = ![t.val % 8] := by decide +kernel
theorem off30_at : ∀ t : Fin grid0.N, k0_off30 (grid0.coords t) = ![t.val % 8] := by decide +kernel

/-! ## The columns of the right operand -/

theorem off7_at : ∀ g : Fin 2, k0_off7 (BitVec.ofNat 32 (2048 * g.val)) = ![0, 2048 * g.val] := by decide +kernel
theorem off13_at : ∀ g : Fin 2, k0_off13 (BitVec.ofNat 32 (2048 * g.val)) = ![1024, 2048 * g.val] := by decide +kernel
theorem chk1_at (i : grid0.Coords) (g : Fin 2) : k0_chk1 i (BitVec.ofNat 32 (2048 * g.val)) :=
  ⟨fun _ => by revert g; decide +kernel, fun _ => by revert g; decide +kernel⟩
theorem chk2_at (i : grid0.Coords) (g : Fin 2) : k0_chk2 i (BitVec.ofNat 32 (2048 * g.val)) :=
  ⟨fun _ => by revert g; decide +kernel, fun _ => by revert g; decide +kernel⟩
theorem chk3_at (t : Fin grid0.N) (g : Fin 2) : k0_chk3 (grid0.coords t) (BitVec.ofNat 32 (2048 * g.val)) :=
  ⟨fun _ => by revert g; decide +kernel, fun h => by
    rw [off23_at t ((cond2_iff t).mp h) g]; exact wt_inb (tileN (t.val + 2)) g⟩

/-! ## The windows and the devices -/

theorem off35_at : ∀ q : Fin 4, k0_off35 (BitVec.ofNat 32 (512 * q.val)) = ![1, 0, 512 * q.val] := by decide +kernel
theorem off38_at : ∀ q : Fin 4, k0_off38 (BitVec.ofNat 32 (512 * q.val)) = ![1, 0, 512 * q.val] := by decide +kernel
theorem off41_at : ∀ q : Fin 4, k0_off41 (BitVec.ofNat 32 (512 * q.val)) = ![1, 0, 512 * q.val] := by decide +kernel
theorem off44_at : ∀ q : Fin 4, k0_off44 (BitVec.ofNat 32 (512 * q.val)) = ![1, 0, 512 * q.val] := by decide +kernel
theorem off46_at : ∀ q : Fin 4, k0_off46 (BitVec.ofNat 32 (512 * q.val)) = ![1, 0, 512 * q.val] := by decide +kernel
theorem off33_at : ∀ q : Fin 4, k0_off33 (BitVec.ofNat 32 (512 * q.val)) = ![0, 0, 512 * q.val] := by decide +kernel
theorem chk4_at (i : grid0.Coords) (q : Fin 4) : k0_chk4 i (BitVec.ofNat 32 (512 * q.val)) :=
  ⟨fun _ => by revert q; decide +kernel, fun _ => by revert q; decide +kernel⟩
theorem chk6_at (i : grid0.Coords) (q : Fin 4) : k0_chk6 i (BitVec.ofNat 32 (512 * q.val)) :=
  ⟨fun _ => by revert q; decide +kernel, fun _ => by revert q; decide +kernel⟩
theorem chk7_at (i : grid0.Coords) (q : Fin 4) : k0_chk7 i (BitVec.ofNat 32 (512 * q.val)) :=
  ⟨fun _ => by revert q; decide +kernel, fun _ => by revert q; decide +kernel⟩
theorem chk9_at (i : grid0.Coords) (q : Fin 4) : k0_chk9 i (BitVec.ofNat 32 (512 * q.val)) :=
  ⟨fun _ => by revert q; decide +kernel, fun _ => by revert q; decide +kernel⟩
theorem chk11_at (i : grid0.Coords) (q : Fin 4) : k0_chk11 i (BitVec.ofNat 32 (512 * q.val)) :=
  ⟨fun _ => by revert q; decide +kernel, fun _ => by revert q; decide +kernel⟩
theorem chk13_at (i : grid0.Coords) (q : Fin 4) : k0_chk13 i (BitVec.ofNat 32 (512 * q.val)) :=
  ⟨fun _ => by revert q; decide +kernel, fun _ => by revert q; decide +kernel⟩
theorem dev9_at : ∀ d : Dev nD, k0_dev9 (BitVec.ofNat 32 d.val) = d.val := by decide +kernel
theorem chk5_at (i : grid0.Coords) (d : Dev nD) : k0_chk5 i (BitVec.ofNat 32 d.val) := fun _ => by
  rw [dev9_at d]; exact d.isLt
theorem devc9_at (i : grid0.Coords) (d : Dev nD) (h) : (⟨k0_dev9 (BitVec.ofNat 32 d.val), h⟩ : Dev nD) = d := Fin.ext (dev9_at d)
theorem dev10_at : ∀ d : Dev nD, k0_dev10 (BitVec.ofNat 32 d.val) = d.val := by decide +kernel
theorem chk8_at (i : grid0.Coords) (d : Dev nD) : k0_chk8 i (BitVec.ofNat 32 d.val) := fun _ => by
  rw [dev10_at d]; exact d.isLt
theorem devc10_at (i : grid0.Coords) (d : Dev nD) (h) : (⟨k0_dev10 (BitVec.ofNat 32 d.val), h⟩ : Dev nD) = d := Fin.ext (dev10_at d)
theorem dev11_at : ∀ d : Dev nD, k0_dev11 (BitVec.ofNat 32 d.val) = d.val := by decide +kernel
theorem chk10_at (i : grid0.Coords) (d : Dev nD) : k0_chk10 i (BitVec.ofNat 32 d.val) := fun _ => by
  rw [dev11_at d]; exact d.isLt
theorem devc11_at (i : grid0.Coords) (d : Dev nD) (h) : (⟨k0_dev11 (BitVec.ofNat 32 d.val), h⟩ : Dev nD) = d := Fin.ext (dev11_at d)
theorem dev12_at : ∀ d : Dev nD, k0_dev12 (BitVec.ofNat 32 d.val) = d.val := by decide +kernel
theorem chk12_at (i : grid0.Coords) (d : Dev nD) : k0_chk12 i (BitVec.ofNat 32 d.val) := fun _ => by
  rw [dev12_at d]; exact d.isLt
theorem devc12_at (i : grid0.Coords) (d : Dev nD) (h) : (⟨k0_dev12 (BitVec.ofNat 32 d.val), h⟩ : Dev nD) = d := Fin.ext (dev12_at d)

theorem word_dev : ∀ c : Dev nD, Scalar.remsi (Scalar.divsi (Dev.word c) 1#32) 8#32 = BitVec.ofNat 32 c.val := by decide +kernel
theorem cmp_dev : ∀ c p : Dev nD, Scalar.cmpi .ne (Scalar.extui (Scalar.cmpi .ne (BitVec.ofNat 32 c.val) (BitVec.ofNat 32 p.val)) : BitVec 32) 0#32 = 1#1 ↔ p ≠ c := by
  decide +kernel

end Cert.KernelIdealProof
-- ==== Proof.KernelIdeal.Head.lean ====
/- The first part of the body at a grid point: the barrier and the first two fetches when the grid begins, then the
    tiles waited for, the fetch two steps ahead, and the product. -/
module

public import proofs.«01_k».proof.Proof.KernelIdeal.Words

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The rings at a step -/

/-- The tiles of step `n` on their way. -/
def fly (c : Dev nD) (n : ℕ) : sProp 𝕄 :=
  iprop(flyX m c (slotN n) (tileN n) ∗ flyW m c (slotN n) (tileN n) (gsel c (halfN n)))
/-- The slots of step `n` at rest. -/
def free (c : Dev nD) (n : ℕ) : sProp 𝕄 := iprop(freeX m c (slotN n) ∗ freeW m c (slotN n))
def ahead (c : Dev nD) (n : ℕ) : sProp 𝕄 := if n < 16 then fly m c n else free m c n
/-- The rings before step `n`: two steps fetched, the third slot at rest. -/
def ring (c : Dev nD) (n : ℕ) : sProp 𝕄 := iprop(ahead m c n ∗ ahead m c (n + 1) ∗ free m c (n + 2))

theorem free_next (c : Dev nD) (n : ℕ) : free m c (n + 3) = free m c n := by
  unfold free; rw [show slotN (n + 3) = slotN n from Fin.ext (Nat.add_mod_right n 3)]
theorem ahead_fly (c : Dev nD) (n : ℕ) (h : n < 16) : ahead m c n = fly m c n := if_pos h
theorem ahead_free (c : Dev nD) (n : ℕ) (h : ¬n < 16) : ahead m c n = free m c n := if_neg h

theorem bigSep_dev (Φ : Dev nD → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} from by decide]
  rw [bigSep_insert (by decide), bigSep_insert (by decide), bigSep_insert (by decide), bigSep_insert (by decide),
    bigSep_insert (by decide), bigSep_insert (by decide), bigSep_insert (by decide), bigSep_singleton]
  rfl

/-! ## The barrier -/

/-- What the signal to device `p` hands over. -/
def sigRes (c p : Dev nD) : sProp 𝕄 :=
  iprop(dutyTok ER (barCell p) 0 c ∗ (∃ f, rowPts (F := F) c p f) ∗ reached ER (recvCell c p) 0)

theorem part1_run (κ : GSem nD τ sig → ℕ) (c : Dev nD) (i : grid0.Coords) (h1 : k0_cond1 i = 1#1) (Q : PUnit → sProp 𝕄) :
    iprop(recs m κ ∗ ow c (oweB c 0) ∗ levAts L lv ∗ (bigSep Finset.univ fun p => sigRes c p)
        ∗ cred (tallyAt (barCell c) () 8) ∗ atPos ER (barCell c) 0 ∅ 0
        ∗ (iprop((bigSep Finset.univ fun d => barPay c d) ∗ semVal (barCell c) 0 ∗ ow c (oweS c 0)) -∗ Q ⟨⟩))
      ⊢ wp frame (wpE (defs₀ (F := F)) 𝒱₀ (c : Thread nD τ) none) Set.univ (k0_part1 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7 h1) Q := by
  rw [k0_part1_eq_skeleton]; unfold k0_part1_skel
  simp only [semSignalWord, semWaitWord, smemLoad, smemLoadElt, Prog.lift, Prog.bind_op, Prog.bind_ret, Prog.pure_eq_ret, Prog.bind_assoc, wp_deviceId]
  rw [bigSep_dev]
  unfold sigRes
  iintro ⟨#HI, HO, #Hlev, ⟨H0, H1, H2, H3, H4, H5, H6, H7⟩, Hc, Ha, Hk⟩
  iapply (wp_sig m κ c 0 0 (by decide) (Fin.ext k0_dev1_eq)) $$ [HO H0]
  · isplitr; · iexact HI
    isplitl [HO]; · iexact HO
    iexact H0
  iintro HO
  iapply (wp_sig m κ c 1 1 (by decide) (Fin.ext k0_dev2_eq)) $$ [HO H1]
  · isplitr; · iexact HI
    isplitl [HO]; · iexact HO
    iexact H1
  iintro HO
  iapply (wp_sig m κ c 2 2 (by decide) (Fin.ext k0_dev3_eq)) $$ [HO H2]
  · isplitr; · iexact HI
    isplitl [HO]; · iexact HO
    iexact H2
  iintro HO
  iapply (wp_sig m κ c 3 3 (by decide) (Fin.ext k0_dev4_eq)) $$ [HO H3]
  · isplitr; · iexact HI
    isplitl [HO]; · iexact HO
    iexact H3
  iintro HO
  iapply (wp_sig m κ c 4 4 (by decide) (Fin.ext k0_dev5_eq)) $$ [HO H4]
  · isplitr; · iexact HI
    isplitl [HO]; · iexact HO
    iexact H4
  iintro HO
  iapply (wp_sig m κ c 5 5 (by decide) (Fin.ext k0_dev6_eq)) $$ [HO H5]
  · isplitr; · iexact HI
    isplitl [HO]; · iexact HO
    iexact H5
  iintro HO
  iapply (wp_sig m κ c 6 6 (by decide) (Fin.ext k0_dev7_eq)) $$ [HO H6]
  · isplitr; · iexact HI
    isplitl [HO]; · iexact HO
    iexact H6
  iintro HO
  iapply (wp_sig m κ c 7 7 (by decide) (Fin.ext k0_dev8_eq)) $$ [HO H7]
  · isplitr; · iexact HI
    isplitl [HO]; · iexact HO
    iexact H7
  iintro HO
  ihave HO := (Entails.of_eq (congrArg (ow (F := F) c) (oweB_end c))) $$ HO
  iapply (wp_barWait m κ c) $$ [HO Hc Ha]
  · isplitr; · iexact HI
    isplitl [HO]; · iexact HO
    isplitr; · iexact Hlev
    isplitl [Hc]; · iexact Hc
    iexact Ha
  iintro H
  iapply (le_wp_ret _ _ _ _ _)
  iapply Hk
  iexact H

theorem part2_run (c : Dev nD) (i : grid0.Coords) (h1 : k0_cond1 i = 1#1) (Q : BitVec 32 → sProp 𝕄) :
    iprop(free m c 0 ∗ freeX m c 1 ∗ wcbPts c ∗ (∀ v, iprop(fly m c 0 ∗ flyX m c 1 1 ∗ wcbPts c) -∗ Q v))
      ⊢ wp frame (wpE (defs₀ (F := F)) 𝒱₀ (c : Thread nD τ) none) Set.univ (k0_part2 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7 h1) Q := by
  rw [k0_part2_eq_skeleton]; unfold k0_part2_skel
  simp only [semSignalWord, semWaitWord, smemLoad, smemLoadElt, Prog.lift, Prog.bind_op, Prog.bind_ret, Prog.pure_eq_ret, Prog.bind_assoc, wp_deviceId]
  rw [show free m c 0 = iprop(freeX m c 0 ∗ freeW m c 0) from rfl,
    show fly m c 0 = iprop(flyX m c 0 0 ∗ flyW m c 0 0 (gsel c 0)) from rfl]
  iintro ⟨⟨HX, HW⟩, HX1, Ht, Hk⟩
  iapply (wp_fetchX m c 0 0 k0_off1_eq k0_off2_eq k0_off3_eq) $$ HX
  iintro HX
  iapply (wp_wcb c 0 k0_off4_eq) $$ Ht
  iintro Ht
  simp only [wp_assume_of _ _ _ _ (d := k0_chk1.dec _ _) (chk1_at i (gsel c 0))]
  iapply (wp_fetchW m c 0 0 (gsel c 0) (k0_off5_eq 0) k0_off6_eq (off7_at (gsel c 0))) $$ HW
  iintro HW
  iapply (wp_fetchX m c 1 1 (k0_off5_eq 1) k0_off8_eq k0_off9_eq) $$ HX1
  iintro HX1
  iapply (le_wp_ret _ _ _ _ _)
  iapply Hk
  isplitl [HX HW]
  · isplitl [HX]; · iexact HX
    iexact HW
  isplitl [HX1]; · iexact HX1
  iexact Ht

/-! ## The product of a step -/

theorem part7_zero (κ : GSem nD τ sig → ℕ) (c : Dev nD) (t : Fin grid0.N) (ht : t.val = 0) (O : CellTallies nD τ sig Unit) (eO : O = oweS c 0)
    (hO : ∀ sm : SemLoc sig, lvS sm ≤ 1 → ((levAts L lv : sProp 𝕄) ⊢ MayWait (c : Thread nD τ) sm () O)) (Q : _ → sProp 𝕄) :
    iprop(recs m κ ∗ ow c (oweB c 0) ∗ levAts L lv ∗ (bigSep Finset.univ fun p => sigRes c p)
        ∗ cred (tallyAt (barCell c) () 8) ∗ atPos ER (barCell c) 0 ∅ 0
        ∗ free m c 0 ∗ free m c 1 ∗ free m c 2 ∗ wcbPts c
        ∗ (iprop((bigSep Finset.univ fun d => barPay c d) ∗ semVal (barCell c) 0) -∗ (∀ a0 a1 v4 z v29, iprop(⌜v29 = prodT m c (halfN t.val) (tileN t.val)⌝ ∗ ring m c (t.val + 1) ∗ ow c O ∗ wcbPts c) -∗ Q ⟨a0, a1, c, BitVec.ofNat 32 c.val, v4, v29, z⟩)))
      ⊢ wp frame (wpE (defs₀ (F := F)) 𝒱₀ (c : Thread nD τ) none) Set.univ (k0_part7 (grid0.coords t) (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) Q := by
  rw [k0_part7_eq_skeleton]; unfold k0_part7_skel
  simp only [semSignalWord, semWaitWord, smemLoad, smemLoadElt, Prog.lift, Prog.bind_op, Prog.bind_ret, Prog.pure_eq_ret, Prog.bind_assoc, wp_deviceId]
  have h1 : k0_cond1 (grid0.coords t) = 1#1 := (cond1_iff t).mpr ht
  have h2 : t.val + 2 < 16 := by omega
  have h2' : k0_cond2 (grid0.coords t) = 1#1 := (cond2_iff t).mpr h2
  simp only [dif_pos h1, dif_pos h2']
  iintro ⟨#HI, HO, #Hlev, Hsig, Hc, Ha, Hf0, Hf1, Hf, Ht, Hk⟩
  rw [wp_bind]
  iapply (part1_run m κ c (grid0.coords t) h1 _)
  isplitr; · iexact HI
  isplitl [HO]; · iexact HO
  isplitr; · iexact Hlev
  isplitl [Hsig]; · iexact Hsig
  isplitl [Hc]; · iexact Hc
  isplitl [Ha]; · iexact Ha
  iintro ⟨Hp, Hs, HO⟩
  ihave HO := (Entails.of_eq (congrArg (ow (F := F) c) eO.symm)) $$ HO
  ihave Hk := Hk $$ [Hp Hs]
  · isplitl [Hp]; · iexact Hp
    iexact Hs
  rw [wp_bind]
  ihave Hf1 := (Entails.of_eq (show free m c 1 = iprop(freeX m c 1 ∗ freeW m c 1) from rfl)) $$ Hf1
  icases Hf1 with ⟨HX1, HW1⟩
  iapply (part2_run m c (grid0.coords t) h1 _)
  isplitl [Hf0]; · iexact Hf0
  isplitl [HX1]; · iexact HX1
  isplitl [Ht]; · iexact Ht
  iintro %v ⟨H0, HX1, Ht⟩
  iapply (wp_wcb c 0 k0_off10_eq) $$ Ht
  iintro Ht
  simp only [wp_assume_of _ _ _ _ (d := k0_chk2.dec _ _) (chk2_at (grid0.coords t) (gsel c 0))]
  iapply (wp_fetchW m c 1 1 (gsel c 0) k0_off11_eq k0_off12_eq (off13_at (gsel c 0))) $$ HW1
  iintro HW1
  ihave H1 := (Entails.of_eq (show iprop(flyX m c 1 1 ∗ flyW m c 1 1 (gsel c 0)) = ahead m c (t.val + 1) from by
    rw [ht, ahead_fly m c (0 + 1) (by decide)]; rfl)) $$ [HX1 HW1]
  · isplitl [HX1]; · iexact HX1
    iexact HW1
  ihave H0 := (Entails.of_eq (show fly m c 0 = iprop(flyX m c (slotN t.val) (tileN t.val) ∗ flyW m c (slotN t.val) (tileN t.val) (gsel c (halfN t.val))) from by
    rw [ht]; rfl)) $$ H0
  icases H0 with ⟨HX, HW⟩
  ihave Hf := (Entails.of_eq (show free m c 2 = free m c (t.val + 2) from by rw [ht])) $$ Hf
  iapply (wp_awaitX m c (slotN t.val) (tileN t.val) O (hO _ (lv_x _)) (off14_at t) (off15_at t)) $$ [HX HO]
  · isplitl [HX]; · iexact HX
    isplitl [HO]; · iexact HO
    iexact Hlev
  iintro ⟨HX, HO⟩
  iapply (wp_awaitW m c (slotN t.val) (tileN t.val) (gsel c (halfN t.val)) O (hO _ (lv_w _)) (off14_at t) (off16_at t)) $$ [HW HO]
  · isplitl [HW]; · iexact HW
    isplitl [HO]; · iexact HO
    iexact Hlev
  iintro ⟨HW, HO⟩
  unfold free
  icases Hf with ⟨HfX, HfW⟩
  iapply (wp_fetchX m c (slotN (t.val + 2)) (tileN (t.val + 2)) (off17_at t) (off18_at t) (off19_at t h2)) $$ HfX
  iintro HfX
  iapply (wp_wcb c (halfN (t.val + 2)) (off20_at t h2)) $$ Ht
  iintro Ht
  simp only [wp_assume_of _ _ _ _ (d := k0_chk3.dec _ _) (chk3_at t (gsel c (halfN (t.val + 2))))]
  iapply (wp_fetchW m c (slotN (t.val + 2)) (tileN (t.val + 2)) (gsel c (halfN (t.val + 2))) (off21_at t) (off22_at t) (off23_at t h2 _)) $$ HfW
  iintro HfW
  ihave H2 := (Entails.of_eq (ahead_fly m c (t.val + 2) h2).symm) $$ [HfX HfW]
  · unfold fly
    isplitl [HfX]; · iexact HfX
    iexact HfW
  iapply (wp_loadX m c (slotN t.val) (tileN t.val) (off24_at t)) $$ HX
  iintro %v24 ⟨%hv24, HX⟩
  iapply (wp_loadW m c (slotN t.val) (tileN t.val) (gsel c (halfN t.val)) (off25_at t)) $$ HW
  iintro %v27 ⟨%hv27, HW⟩
  iapply (le_wp_ret _ _ _ _ _)
  rw [word_dev c]
  iapply Hk
  isplitr
  · ipureintro
    unfold k0_pay3 prodT
    rw [hv24, hv27]
  isplitr [HO Ht]
  · unfold ring
    isplitl [H1]; · iexact H1
    isplitl [H2]; · iexact H2
    rw [free_next m c t.val]; unfold free
    isplitl [HX]; · iapply (fullX_free m c (slotN t.val) (tileN t.val)); iexact HX
    iapply (fullW_free m c (slotN t.val) (tileN t.val) (gsel c (halfN t.val))); iexact HW
  isplitl [HO]; · iexact HO
  iexact Ht

theorem part7_pos (c : Dev nD) (t : Fin grid0.N) (ht : t.val ≠ 0) (O : CellTallies nD τ sig Unit)
    (hO : ∀ sm : SemLoc sig, lvS sm ≤ 1 → ((levAts L lv : sProp 𝕄) ⊢ MayWait (c : Thread nD τ) sm () O)) (Q : _ → sProp 𝕄) :
    iprop(ow c O ∗ levAts L lv ∗ ring m c t.val ∗ wcbPts c ∗ (∀ a0 a1 v4 z v29, iprop(⌜v29 = prodT m c (halfN t.val) (tileN t.val)⌝ ∗ ring m c (t.val + 1) ∗ ow c O ∗ wcbPts c) -∗ Q ⟨a0, a1, c, BitVec.ofNat 32 c.val, v4, v29, z⟩))
      ⊢ wp frame (wpE (defs₀ (F := F)) 𝒱₀ (c : Thread nD τ) none) Set.univ (k0_part7 (grid0.coords t) (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) Q := by
  rw [k0_part7_eq_skeleton]; unfold k0_part7_skel
  simp only [semSignalWord, semWaitWord, smemLoad, smemLoadElt, Prog.lift, Prog.bind_op, Prog.bind_ret, Prog.pure_eq_ret, Prog.bind_assoc, wp_deviceId]
  have h1 : ¬k0_cond1 (grid0.coords t) = 1#1 := fun h => ht ((cond1_iff t).mp h)
  simp only [dif_neg h1]
  have hr : ring m c t.val = iprop((flyX m c (slotN t.val) (tileN t.val) ∗ flyW m c (slotN t.val) (tileN t.val) (gsel c (halfN t.val)))
      ∗ ahead m c (t.val + 1) ∗ free m c (t.val + 2)) := by
    unfold ring; rw [ahead_fly m c t.val (N_lt t)]; rfl
  rw [hr]
  by_cases h2 : t.val + 2 < 16
  · have h2' : k0_cond2 (grid0.coords t) = 1#1 := (cond2_iff t).mpr h2
    simp only [dif_pos h2']
    iintro ⟨HO, #Hlev, ⟨⟨HX, HW⟩, H1, Hf⟩, Ht, Hk⟩
    iapply (wp_awaitX m c (slotN t.val) (tileN t.val) O (hO _ (lv_x _)) (off14_at t) (off15_at t)) $$ [HX HO]
    · isplitl [HX]; · iexact HX
      isplitl [HO]; · iexact HO
      iexact Hlev
    iintro ⟨HX, HO⟩
    iapply (wp_awaitW m c (slotN t.val) (tileN t.val) (gsel c (halfN t.val)) O (hO _ (lv_w _)) (off14_at t) (off16_at t)) $$ [HW HO]
    · isplitl [HW]; · iexact HW
      isplitl [HO]; · iexact HO
      iexact Hlev
    iintro ⟨HW, HO⟩
    unfold free
    icases Hf with ⟨HfX, HfW⟩
    iapply (wp_fetchX m c (slotN (t.val + 2)) (tileN (t.val + 2)) (off17_at t) (off18_at t) (off19_at t h2)) $$ HfX
    iintro HfX
    iapply (wp_wcb c (halfN (t.val + 2)) (off20_at t h2)) $$ Ht
    iintro Ht
    simp only [wp_assume_of _ _ _ _ (d := k0_chk3.dec _ _) (chk3_at t (gsel c (halfN (t.val + 2))))]
    iapply (wp_fetchW m c (slotN (t.val + 2)) (tileN (t.val + 2)) (gsel c (halfN (t.val + 2))) (off21_at t) (off22_at t) (off23_at t h2 _)) $$ HfW
    iintro HfW
    ihave H2 := (Entails.of_eq (ahead_fly m c (t.val + 2) h2).symm) $$ [HfX HfW]
    · unfold fly
      isplitl [HfX]; · iexact HfX
      iexact HfW
    iapply (wp_loadX m c (slotN t.val) (tileN t.val) (off24_at t)) $$ HX
    iintro %v24 ⟨%hv24, HX⟩
    iapply (wp_loadW m c (slotN t.val) (tileN t.val) (gsel c (halfN t.val)) (off25_at t)) $$ HW
    iintro %v27 ⟨%hv27, HW⟩
    iapply (le_wp_ret _ _ _ _ _)
    rw [word_dev c]
    iapply Hk
    isplitr
    · ipureintro
      unfold k0_pay3 prodT
      rw [hv24, hv27]
    isplitr [HO Ht]
    · unfold ring
      isplitl [H1]; · iexact H1
      isplitl [H2]; · iexact H2
      rw [free_next m c t.val]; unfold free
      isplitl [HX]; · iapply (fullX_free m c (slotN t.val) (tileN t.val)); iexact HX
      iapply (fullW_free m c (slotN t.val) (tileN t.val) (gsel c (halfN t.val))); iexact HW
    isplitl [HO]; · iexact HO
    iexact Ht
  · have h2' : ¬k0_cond2 (grid0.coords t) = 1#1 := fun h => h2 ((cond2_iff t).mp h)
    simp only [dif_neg h2']
    iintro ⟨HO, #Hlev, ⟨⟨HX, HW⟩, H1, Hf⟩, Ht, Hk⟩
    ihave H2 := (Entails.of_eq (ahead_free m c (t.val + 2) h2).symm) $$ Hf
    iapply (wp_awaitX m c (slotN t.val) (tileN t.val) O (hO _ (lv_x _)) (off14_at t) (off15_at t)) $$ [HX HO]
    · isplitl [HX]; · iexact HX
      isplitl [HO]; · iexact HO
      iexact Hlev
    iintro ⟨HX, HO⟩
    iapply (wp_awaitW m c (slotN t.val) (tileN t.val) (gsel c (halfN t.val)) O (hO _ (lv_w _)) (off14_at t) (off16_at t)) $$ [HW HO]
    · isplitl [HW]; · iexact HW
      isplitl [HO]; · iexact HO
      iexact Hlev
    iintro ⟨HW, HO⟩
    iapply (wp_loadX m c (slotN t.val) (tileN t.val) (off24_at t)) $$ HX
    iintro %v24 ⟨%hv24, HX⟩
    iapply (wp_loadW m c (slotN t.val) (tileN t.val) (gsel c (halfN t.val)) (off25_at t)) $$ HW
    iintro %v27 ⟨%hv27, HW⟩
    iapply (le_wp_ret _ _ _ _ _)
    rw [word_dev c]
    iapply Hk
    isplitr
    · ipureintro
      unfold k0_pay3 prodT
      rw [hv24, hv27]
    isplitr [HO Ht]
    · unfold ring
      isplitl [H1]; · iexact H1
      isplitl [H2]; · iexact H2
      rw [free_next m c t.val]; unfold free
      isplitl [HX]; · iapply (fullX_free m c (slotN t.val) (tileN t.val)); iexact HX
      iapply (fullW_free m c (slotN t.val) (tileN t.val) (gsel c (halfN t.val))); iexact HW
    isplitl [HO]; · iexact HO
    iexact Ht

end Cert.KernelIdealProof
-- ==== Proof.KernelIdeal.Drain.lean ====
/- The last step's drain: the second accumulator's blocks leave, the device's own block is copied, and every arrival
    and every send is waited for. -/
module

public import proofs.«01_k».proof.Proof.KernelIdeal.Head

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- What waiting for the block of device `p` takes. -/
def recvRes (c p : Dev nD) : sProp 𝕄 :=
  iprop((if p ≠ c then cred (tallyAt (recvCell c p) () N) else emp) ∗ atPos ER (recvCell c p) 0 ∅ 0)
/-- What it leaves: the rows, unless they are the device's own, and the cell's counter at zero. -/
def recvDone (c p : Dev nD) : sProp 𝕄 :=
  iprop((if p ≠ c then recvPay m c p else emp) ∗ semVal (recvCell c p) 0)

/-- The wait for the block of device `p`, left out when `p` is the device itself. -/
theorem wp_recvIf (κ : GSem nD τ sig → ℕ) (c p : Dev nD) {w : BitVec 1} (hw : w = 1#1 ↔ p ≠ c)
    {os : Fin 1 → ℕ} {hs : ∀ a, os a + S1.size a ≤ S8.size a} (es : os = ![p.val])
    {sp sp' : Space} {src : Memref sig .tc sp S1024x512 .f32} {dst : Memref sig .tc sp' S1024x512 .f32} (hN : dst.view.dmaCredit = N) {h1 h2}
    {α : Type} {Q : α → sProp 𝕄} {K : Prog (TpuEff nD τ sig (Elt F) Λ₀ .tc) α} :
    iprop(recs m κ ∗ ow c 0 ∗ recvRes c p)
      ⊢ iprop((iprop(recvDone m c p ∗ ow c 0) -∗ wp frame (wpE (defs₀ (F := F)) 𝒱₀ (c : Thread nD τ) none) Set.univ K Q) -∗ wp frame (wpE (defs₀ (F := F)) 𝒱₀ (c : Thread nD τ) none) Set.univ
        (if _ : w = 1#1 then .op (.waitDma2 ((cc0_scratch6.slice (Rect.unit (s := S8) os S1.size hs)).squeeze S_ squeezes_S1_S_).sem src dst h1 h2) (fun _ => K) else K) Q) := by
  unfold recvRes recvDone
  by_cases hp : p ≠ c
  · rw [dif_pos (hw.mpr hp), if_pos hp, if_pos hp]
    iintro ⟨#HI, HO, Hc, Ha⟩ Hk
    iapply (wp_recvWait m κ c p hp es hN) $$ [Hc Ha HO]
    · isplitr; · iexact HI
      isplitl [HO]; · iexact HO
      isplitl [Hc]; · iexact Hc
      iexact Ha
    iintro ⟨Hp, Hs, HO⟩
    iapply Hk
    isplitr [HO]
    · isplitl [Hp]; · iexact Hp
      iexact Hs
    iexact HO
  · rw [dif_neg (fun h => hp (hw.mp h)), if_neg hp, if_neg hp]
    obtain rfl := not_not.mp hp
    iintro ⟨#HI, HO, -, Ha⟩ Hk
    iapply (fupd_wp _ _ _ _ _)
    imod (close_none m (κ (recvCell p p)) (recvCell p p) (duties_recv_self m p)) $$ [Ha] with Hs
    · isplitr; · iapply (recs_at m κ (recv_mem p p)); iexact HI
      iexact Ha
    imodintro
    iapply Hk
    isplitr [HO]
    · isplitr; · iempintro
      iexact Hs
    iexact HO

theorem win_zero (c : Dev nD) : winOf c 0 = place c := by revert c; decide
theorem win_four (c : Dev nD) : winOf c 4 = place c := by revert c; decide
theorem win_five (c : Dev nD) : winOf c 5 = winOf c 1 := by revert c; decide
theorem win_six (c : Dev nD) : winOf c 6 = winOf c 2 := by revert c; decide
theorem win_seven (c : Dev nD) : winOf c 7 = winOf c 3 := by revert c; decide

/-- The word of the column table for block `j`. -/
abbrev colWord (c : Dev nD) (j : Fin 4) : BitVec 32 := BitVec.ofNat 32 (512 * ((c.val % 4 + j.val) % 4))

theorem part3_run (κ : GSem nD τ sig → ℕ) (c : Dev nD) (i : grid0.Coords) (h6 : k0_cond6 i = 1#1) (v2 : BitVec 32) (Q : _ → sProp 𝕄) :
    iprop(recs m κ ∗ ow c (oweS c 4) ∗ tgtPts c ∗ colPts c
        ∗ semVal ((c : Thread nD τ), SemLoc.dma locS) 0 ∗ winPts c 1 (place c) (accF m c) ∗ (∃ f, rowPts c c f)
        ∗ winPts c 1 (winOf c 1) (accF m c) ∗ sendRes c 5
        ∗ (∀ h9 h10, iprop(flyO m c ∗ cred (tallyAt (sendCell c 5) () N) ∗ ow c (oweS c 5) ∗ tgtPts c ∗ colPts c)
            -∗ Q ⟨colWord c 2, h9, BitVec.ofNat 32 (tgt c 6).val, h10⟩))
      ⊢ wp frame (wpE (defs₀ (F := F)) 𝒱₀ (c : Thread nD τ) none) Set.univ (k0_part3 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7 c v2 h6) Q := by
  rw [k0_part3_eq_skeleton]; unfold k0_part3_skel
  simp only [semSignalWord, semWaitWord, smemLoad, smemLoadElt, Prog.lift, Prog.bind_op, Prog.bind_ret, Prog.pure_eq_ret, Prog.bind_assoc, wp_deviceId]
  iintro ⟨#HI, HO, Ht, Hc, Hs, Hw, Hr, Hw5, Hr5, Hk⟩
  iapply (wp_col c 0 rfl) $$ Hc
  iintro Hc
  simp only [wp_assume_of _ _ _ _ (d := k0_chk6.dec _ _) (show k0_chk6 i (colWord c 0) from chk6_at i (winOf c 0))]
  iapply (wp_ownCopy m c ((off35_at (winOf c 0)).trans (by rw [win_zero])) (k0_off34_eq c)) $$ [Hs Hw Hr]
  · isplitl [Hs]; · iexact Hs
    isplitl [Hw]; · iexact Hw
    iexact Hr
  iintro HF
  iapply (wp_col c 1 rfl) $$ Hc
  iintro Hc
  simp only [wp_assume_of _ _ _ _ (d := k0_chk7.dec _ _) (show k0_chk7 i (colWord c 1) from chk7_at i (winOf c 1))]
  iapply (wp_tgt c 5 rfl) $$ Ht
  iintro Ht
  simp only [wp_assume_of _ _ _ _ (d := k0_chk8.dec _ _) (chk8_at i (tgt c 5))]
  iapply (wp_sendBlk m κ c 5 (by decide) (oweS c 4) (oweS c 5) (oweS_succ c 4 5 rfl)
    ((off38_at (winOf c 1)).trans (by rw [win_five]; rfl)) (k0_off37_eq c) rfl (k0_off36_eq c) (devc10_at i (tgt c 5) _)) $$ [HO Hw5 Hr5]
  · isplitr; · iexact HI
    isplitl [HO]; · iexact HO
    isplitl [Hw5]; · rw [win_five]; iexact Hw5
    iexact Hr5
  iintro ⟨Hcr, HO⟩
  iapply (wp_col c 2 rfl) $$ Hc
  iintro Hc
  simp only [wp_assume_of _ _ _ _ (d := k0_chk9.dec _ _) (show k0_chk9 i (colWord c 2) from chk9_at i (winOf c 2))]
  iapply (wp_tgt c 6 rfl) $$ Ht
  iintro Ht
  simp only [wp_assume_of _ _ _ _ (d := k0_chk10.dec _ _) (chk10_at i (tgt c 6))]
  iapply (le_wp_ret _ _ _ _ _)
  iapply Hk
  isplitl [HF]; · iexact HF
  isplitl [Hcr]; · iexact Hcr
  isplitl [HO]; · iexact HO
  isplitl [Ht]; · iexact Ht
  iexact Hc

theorem part4_run (κ : GSem nD τ sig → ℕ) (c : Dev nD) (i : grid0.Coords) (h6 : k0_cond6 i = 1#1) (h9) (h10) (Q : BitVec 32 → sProp 𝕄) :
    iprop(recs m κ ∗ ow c (oweS c 5) ∗ tgtPts c ∗ colPts c ∗ flyO m c
        ∗ winPts c 1 (winOf c 2) (accF m c) ∗ sendRes c 6 ∗ winPts c 1 (winOf c 3) (accF m c) ∗ sendRes c 7
        ∗ recvRes c 0 ∗ recvRes c 1 ∗ recvRes c 2
        ∗ (iprop((rowPts c c (outF m c) ∗ winPts c 1 (place c) (accF m c) ∗ semVal ((c : Thread nD τ), SemLoc.dma locS) 0)
            ∗ cred (tallyAt (sendCell c 6) () N) ∗ cred (tallyAt (sendCell c 7) () N)
            ∗ recvDone m c 0 ∗ recvDone m c 1 ∗ recvDone m c 2 ∗ ow c 0 ∗ tgtPts c ∗ colPts c) -∗ Q 3#32))
      ⊢ wp frame (wpE (defs₀ (F := F)) 𝒱₀ (c : Thread nD τ) none) Set.univ (k0_part4 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7 c (BitVec.ofNat 32 c.val) h6 (colWord c 2) h9 (BitVec.ofNat 32 (tgt c 6).val) h10) Q := by
  rw [k0_part4_eq_skeleton]; unfold k0_part4_skel
  simp only [semSignalWord, semWaitWord, smemLoad, smemLoadElt, Prog.lift, Prog.bind_op, Prog.bind_ret, Prog.pure_eq_ret, Prog.bind_assoc, wp_deviceId]
  iintro ⟨#HI, HO, Ht, Hc, HF, Hw6, Hr6, Hw7, Hr7, H0, H1, H2, Hk⟩
  iapply (wp_sendBlk m κ c 6 (by decide) (oweS c 5) (oweS c 6) (oweS_succ c 5 6 rfl)
    ((off41_at (winOf c 2)).trans (by rw [win_six]; rfl)) (k0_off40_eq c) rfl (k0_off39_eq c) (devc11_at i (tgt c 6) _)) $$ [HO Hw6 Hr6]
  · isplitr; · iexact HI
    isplitl [HO]; · iexact HO
    isplitl [Hw6]; · rw [win_six]; iexact Hw6
    iexact Hr6
  iintro ⟨Hc6, HO⟩
  iapply (wp_col c 3 rfl) $$ Hc
  iintro Hc
  simp only [wp_assume_of _ _ _ _ (d := k0_chk11.dec _ _) (show k0_chk11 i (colWord c 3) from chk11_at i (winOf c 3))]
  iapply (wp_tgt c 7 rfl) $$ Ht
  iintro Ht
  simp only [wp_assume_of _ _ _ _ (d := k0_chk12.dec _ _) (chk12_at i (tgt c 7))]
  iapply (wp_sendBlk m κ c 7 (by decide) (oweS c 6) (oweS c 7) (oweS_succ c 6 7 rfl)
    ((off44_at (winOf c 3)).trans (by rw [win_seven]; rfl)) (k0_off43_eq c) rfl (k0_off42_eq c) (devc12_at i (tgt c 7) _)) $$ [HO Hw7 Hr7]
  · isplitr; · iexact HI
    isplitl [HO]; · iexact HO
    isplitl [Hw7]; · rw [win_seven]; iexact Hw7
    iexact Hr7
  iintro ⟨Hc7, HO⟩
  ihave HO := (Entails.of_eq (congrArg (ow (F := F) c) (oweS_end c))) $$ HO
  iapply (wp_col c 0 rfl) $$ Hc
  iintro Hc
  simp only [wp_assume_of _ _ _ _ (d := k0_chk13.dec _ _) (show k0_chk13 i (colWord c 0) from chk13_at i (winOf c 0))]
  iapply (wp_ownWait m c (sp' := .hbm) (k0_off45_eq c)) $$ [HF HO]
  · isplitl [HF]; · iexact HF
    iexact HO
  iintro ⟨Hrow, Hwin, Hs, HO⟩
  iapply (wp_recvIf m κ c 0 (cmp_dev c 0) rfl (N_row 0)) $$ [HO H0]
  · isplitr; · iexact HI
    isplitl [HO]; · iexact HO
    iexact H0
  iintro ⟨H0, HO⟩
  iapply (wp_recvIf m κ c 1 (cmp_dev c 1) rfl (N_row 1)) $$ [HO H1]
  · isplitr; · iexact HI
    isplitl [HO]; · iexact HO
    iexact H1
  iintro ⟨H1, HO⟩
  iapply (wp_recvIf m κ c 2 (cmp_dev c 2) rfl (N_row 2)) $$ [HO H2]
  · isplitr; · iexact HI
    isplitl [HO]; · iexact HO
    iexact H2
  iintro ⟨H2, HO⟩
  iapply (le_wp_ret _ _ _ _ _)
  iapply Hk
  isplitl [Hrow Hwin Hs]
  · isplitl [Hrow]; · iexact Hrow
    isplitl [Hwin]; · iexact Hwin
    iexact Hs
  isplitl [Hc6]; · iexact Hc6
  isplitl [Hc7]; · iexact Hc7
  isplitl [H0]; · iexact H0
  isplitl [H1]; · iexact H1
  isplitl [H2]; · iexact H2
  isplitl [HO]; · iexact HO
  isplitl [Ht]; · iexact Ht
  iexact Hc

/-- What waiting for the send of block `k` takes. -/
def backRes (c : Dev nD) (k : Fin 8) : sProp 𝕄 := iprop(cred (tallyAt (sendCell c k) () N) ∗ atPos ER (sendCell c k) 0 ∅ 0)
def backDone (c : Dev nD) (k : Fin 8) : sProp 𝕄 := iprop(sendPay m c k ∗ semVal (sendCell c k) 0)

theorem part5_run (κ : GSem nD τ sig → ℕ) (c : Dev nD) (i : grid0.Coords) (Q : PUnit → sProp 𝕄) :
    iprop(recs m κ ∗ ow c 0 ∗ recvRes c 3 ∗ recvRes c 4 ∗ recvRes c 5 ∗ recvRes c 6 ∗ recvRes c 7 ∗ backRes c 0 ∗ backRes c 1
        ∗ (iprop(ow c 0 ∗ recvDone m c 3 ∗ recvDone m c 4 ∗ recvDone m c 5 ∗ recvDone m c 6 ∗ recvDone m c 7
            ∗ backDone m c 0 ∗ backDone m c 1) -∗ Q ⟨⟩))
      ⊢ wp frame (wpE (defs₀ (F := F)) 𝒱₀ (c : Thread nD τ) none) Set.univ (k0_part5 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7 (BitVec.ofNat 32 c.val) 3#32) Q := by
  rw [k0_part5_eq_skeleton]; unfold k0_part5_skel
  simp only [semSignalWord, semWaitWord, smemLoad, smemLoadElt, Prog.lift, Prog.bind_op, Prog.bind_ret, Prog.pure_eq_ret, Prog.bind_assoc, wp_deviceId]
  unfold backRes backDone
  iintro ⟨#HI, HO, H3, H4, H5, H6, H7, ⟨Hc0, Ha0⟩, ⟨Hc1, Ha1⟩, Hk⟩
  iapply (wp_recvIf m κ c 3 (cmp_dev c 3) rfl (N_row 3)) $$ [HO H3]
  · isplitr; · iexact HI
    isplitl [HO]; · iexact HO
    iexact H3
  iintro ⟨H3, HO⟩
  iapply (wp_recvIf m κ c 4 (cmp_dev c 4) rfl (N_row 4)) $$ [HO H4]
  · isplitr; · iexact HI
    isplitl [HO]; · iexact HO
    iexact H4
  iintro ⟨H4, HO⟩
  iapply (wp_recvIf m κ c 5 (cmp_dev c 5) rfl (N_row 5)) $$ [HO H5]
  · isplitr; · iexact HI
    isplitl [HO]; · iexact HO
    iexact H5
  iintro ⟨H5, HO⟩
  iapply (wp_recvIf m κ c 6 (cmp_dev c 6) rfl (N_row 6)) $$ [HO H6]
  · isplitr; · iexact HI
    isplitl [HO]; · iexact HO
    iexact H6
  iintro ⟨H6, HO⟩
  iapply (wp_recvIf m κ c 7 (cmp_dev c 7) rfl (N_row 7)) $$ [HO H7]
  · isplitr; · iexact HI
    isplitl [HO]; · iexact HO
    iexact H7
  iintro ⟨H7, HO⟩
  iapply (wp_sendWait m κ c 0 (by decide) rfl (N_win 0 0)) $$ [HO Hc0 Ha0]
  · isplitr; · iexact HI
    isplitl [HO]; · iexact HO
    isplitl [Hc0]; · iexact Hc0
    iexact Ha0
  iintro ⟨Hp0, Hs0, HO⟩
  iapply (wp_sendWait m κ c 1 (by decide) rfl (N_win 0 0)) $$ [HO Hc1 Ha1]
  · isplitr; · iexact HI
    isplitl [HO]; · iexact HO
    isplitl [Hc1]; · iexact Hc1
    iexact Ha1
  iintro ⟨Hp1, Hs1, HO⟩
  iapply (le_wp_ret _ _ _ _ _)
  iapply Hk
  isplitl [HO]; · iexact HO
  isplitl [H3]; · iexact H3
  isplitl [H4]; · iexact H4
  isplitl [H5]; · iexact H5
  isplitl [H6]; · iexact H6
  isplitl [H7]; · iexact H7
  isplitl [Hp0 Hs0]
  · isplitl [Hp0]; · iexact Hp0
    iexact Hs0
  isplitl [Hp1]; · iexact Hp1
  iexact Hs1

theorem part6_run (κ : GSem nD τ sig → ℕ) (c : Dev nD) (i : grid0.Coords) (Q : PUnit → sProp 𝕄) :
    iprop(recs m κ ∗ ow c 0 ∗ backRes c 2 ∗ backRes c 3 ∗ backRes c 5 ∗ backRes c 6
        ∗ (iprop(ow c 0 ∗ backDone m c 2 ∗ backDone m c 3 ∗ backDone m c 5 ∗ backDone m c 6) -∗ Q ⟨⟩))
      ⊢ wp frame (wpE (defs₀ (F := F)) 𝒱₀ (c : Thread nD τ) none) Set.univ (k0_part6 i (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) Q := by
  rw [k0_part6_eq_skeleton]; unfold k0_part6_skel
  simp only [semSignalWord, semWaitWord, smemLoad, smemLoadElt, Prog.lift, Prog.bind_op, Prog.bind_ret, Prog.pure_eq_ret, Prog.bind_assoc, wp_deviceId]
  unfold backRes backDone
  iintro ⟨#HI, HO, ⟨Hc2, Ha2⟩, ⟨Hc3, Ha3⟩, ⟨Hc5, Ha5⟩, ⟨Hc6, Ha6⟩, Hk⟩
  iapply (wp_sendWait m κ c 2 (by decide) rfl (N_win 0 0)) $$ [HO Hc2 Ha2]
  · isplitr; · iexact HI
    isplitl [HO]; · iexact HO
    isplitl [Hc2]; · iexact Hc2
    iexact Ha2
  iintro ⟨Hp2, Hs2, HO⟩
  iapply (wp_sendWait m κ c 3 (by decide) rfl (N_win 0 0)) $$ [HO Hc3 Ha3]
  · isplitr; · iexact HI
    isplitl [HO]; · iexact HO
    isplitl [Hc3]; · iexact Hc3
    iexact Ha3
  iintro ⟨Hp3, Hs3, HO⟩
  iapply (wp_sendWait m κ c 5 (by decide) rfl (N_win 1 0)) $$ [HO Hc5 Ha5]
  · isplitr; · iexact HI
    isplitl [HO]; · iexact HO
    isplitl [Hc5]; · iexact Hc5
    iexact Ha5
  iintro ⟨Hp5, Hs5, HO⟩
  iapply (wp_sendWait m κ c 6 (by decide) rfl (N_win 1 0)) $$ [HO Hc6 Ha6]
  · isplitr; · iexact HI
    isplitl [HO]; · iexact HO
    isplitl [Hc6]; · iexact Hc6
    iexact Ha6
  iintro ⟨Hp6, Hs6, HO⟩
  iapply (le_wp_ret _ _ _ _ _)
  iapply Hk
  isplitl [HO]; · iexact HO
  isplitl [Hp2 Hs2]
  · isplitl [Hp2]; · iexact Hp2
    iexact Hs2
  isplitl [Hp3 Hs3]
  · isplitl [Hp3]; · iexact Hp3
    iexact Hs3
  isplitl [Hp5 Hs5]
  · isplitl [Hp5]; · iexact Hp5
    iexact Hs5
  isplitl [Hp6]; · iexact Hp6
  iexact Hs6

end Cert.KernelIdealProof
-- ==== Proof.KernelIdeal.Split.lean ====
/- How the buffers of the call fall into the pieces its copies move: the result into its eight blocks of rows, an
    accumulator into its four windows, the scratches into their slots, and back. -/
module

public import proofs.«01_k».proof.Proof.KernelIdeal.Drain

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Membership -/

theorem row_mem (p : Dev nD) (i : S8192x512.Idx) : i ∈ (rowM p).view.set ↔ (i 0).val / 1024 = p.val := by
  refine ValueKit.mem_set_slice_whole_iff main_v26 _ i ?_
  rw [Rect.mem_set_unit]
  have h1 : (i 1).val < 512 := (i 1).isLt
  constructor
  · intro h
    have h0 : 1024 * p.val ≤ (i 0).val ∧ (i 0).val < 1024 * p.val + 1024 := h 0
    omega
  · intro h a
    match a with
    | ⟨0, _⟩ => show 1024 * p.val ≤ (i 0).val ∧ (i 0).val < 1024 * p.val + 1024; omega
    | ⟨1, _⟩ => show 0 ≤ (i 1).val ∧ (i 1).val < 0 + 512; omega

theorem win_mem (s : Fin 2) (q : Fin 4) (i : S2x1024x2048.Idx) :
    i ∈ (winM s q).view.set ↔ (i 0).val = s.val ∧ (i 2).val / 512 = q.val := by
  rw [show (winM s q).view.set = _ from View.set_reshape _ _]
  refine ValueKit.mem_set_slice_whole_iff cc0_scratch0 _ i ?_
  rw [Rect.mem_set_unit]
  have h1 : (i 1).val < 1024 := (i 1).isLt
  constructor
  · intro h
    have h0 : s.val ≤ (i 0).val ∧ (i 0).val < s.val + 1 := h 0
    have h2 : 512 * q.val ≤ (i 2).val ∧ (i 2).val < 512 * q.val + 512 := h 2
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 512 * q.val ≤ (i 2).val ∧ (i 2).val < 512 * q.val + 512; omega

theorem acc_mem (s : Fin 2) (i : S2x1024x2048.Idx) : i ∈ (accM s).view.set ↔ (i 0).val = s.val := by
  rw [show (accM s).view.set = _ from View.set_reshape _ _]
  refine ValueKit.mem_set_slice_whole_iff cc0_scratch0 _ i ?_
  rw [Rect.mem_set_unit]
  have h1 : (i 1).val < 1024 := (i 1).isLt
  have h2 : (i 2).val < 2048 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 2048; omega

theorem xs_mem (s : Fin 3) (i : S3x1024x1024.Idx) : i ∈ (xsM s).view.set ↔ (i 0).val = s.val := by
  rw [show (xsM s).view.set = _ from View.set_reshape _ _]
  refine ValueKit.mem_set_slice_whole_iff cc0_scratch1 _ i ?_
  rw [Rect.mem_set_unit]
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

theorem ws_mem (s : Fin 3) (i : S3x1024x2048.Idx) : i ∈ (wsM s).view.set ↔ (i 0).val = s.val := by
  rw [show (wsM s).view.set = _ from View.set_reshape _ _]
  refine ValueKit.mem_set_slice_whole_iff cc0_scratch2 _ i ?_
  rw [Rect.mem_set_unit]
  have h1 : (i 1).val < 1024 := (i 1).isLt
  have h2 : (i 2).val < 2048 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 2048; omega

/-! ## The splits -/

/-- A set of elements cut into the pieces `K`. -/
theorem cut {T : Type} [Fintype T] {ℓ : Loc nD τ sig} (S : Finset (Idx ℓ)) (K : T → Finset (Idx ℓ)) (f : Buf (Elt F) ℓ)
    (hS : ∀ i, i ∈ S ↔ ∃ t, i ∈ K t) (hd : ∀ t t' i, i ∈ K t → i ∈ K t' → t = t') :
    (ℓ ↦[S]{fullShare} f : sProp 𝕄) = bigSep Finset.univ fun t => ℓ ↦[K t]{fullShare} f := by
  classical
  have h : S = Finset.univ.biUnion K := by
    ext i; rw [hS, Finset.mem_biUnion]; exact ⟨fun ⟨t, h⟩ => ⟨t, Finset.mem_univ _, h⟩, fun ⟨t, _, h⟩ => ⟨t, h⟩⟩
  rw [h]
  exact pointsTo_biUnion _ K fun t _ t' _ hne => Finset.disjoint_left.mpr fun i hi hi' => hne (hd t t' i hi hi')

/-- Two pieces at contents of their own, joined. -/
theorem glue {ℓ : Loc nD τ sig} {I J : Finset (Idx ℓ)} (h : ∀ i, i ∈ I → i ∈ J → False) :
    iprop((∃ f, ℓ ↦[I]{fullShare} f) ∗ (∃ f, ℓ ↦[J]{fullShare} f)) ⊢ (iprop(∃ f, ℓ ↦[I ∪ J]{fullShare} f) : sProp 𝕄) := by
  iintro ⟨⟨%f, Hf⟩, ⟨%g, Hg⟩⟩
  iexists _
  iapply (pointsTo_join (f := f) (g := g) (Finset.disjoint_left.mpr fun i hi hj => h i hi hj))
  isplitl [Hf]; · iexact Hf
  iexact Hg

theorem rows_all (i : S8192x512.Idx) : ∃ p : Dev nD, i ∈ (rowM p).view.set := by
  have h : (i 0).val < 8192 := (i 0).isLt
  exact ⟨(⟨(i 0).val / 1024, show _ < 8 by omega⟩ : Dev nD), (row_mem _ i).mpr rfl⟩
theorem rows_apart (p p' : Dev nD) (i : S8192x512.Idx) (h : i ∈ (rowM p).view.set) (h' : i ∈ (rowM p').view.set) : p = p' :=
  Fin.ext (((row_mem p i).mp h).symm.trans ((row_mem p' i).mp h'))

theorem cut_rows (c : Dev nD) (f : (main_v26 : Ref sig .tc).ty.Contents (Elt F)) :
    ((c : Thread nD τ).loc main_v26 ↦{fullShare} f : sProp 𝕄) = bigSep Finset.univ fun p => rowPts c p f := by
  have h := cut (F := F) (T := Dev nD) (ℓ := (c : Thread nD τ).loc main_v26) Finset.univ (fun p : Dev nD => (rowM p).view.set) f
    (fun i => ⟨fun _ => rows_all i, fun _ => Finset.mem_univ _⟩) (fun p p' i h h' => rows_apart p p' i h h')
  exact h

theorem wins_all (s : Fin 2) (i : S2x1024x2048.Idx) : i ∈ (accM s).view.set ↔ ∃ q : Fin 4, i ∈ (winM s q).view.set := by
  have h : (i 2).val < 2048 := (i 2).isLt
  exact ⟨fun h => ⟨⟨(i 2).val / 512, by omega⟩, (win_mem s _ i).mpr ⟨(acc_mem s i).mp h, rfl⟩⟩,
      fun ⟨q, h⟩ => (acc_mem s i).mpr ((win_mem s q i).mp h).1⟩
theorem wins_apart (s : Fin 2) (p p' : Fin 4) (i : S2x1024x2048.Idx) (h : i ∈ (winM s p).view.set) (h' : i ∈ (winM s p').view.set) : p = p' :=
  Fin.ext (((win_mem s p i).mp h).2.symm.trans ((win_mem s p' i).mp h').2)

theorem cut_wins (c : Dev nD) (s : Fin 2) (f : (cc0_scratch0 : Ref sig .tc).ty.Contents (Elt F)) :
    (accPts c s f : sProp 𝕄) = bigSep Finset.univ fun q => winPts c s q f := by
  have h := cut (F := F) (T := Fin 4) (ℓ := (c : Thread nD τ).loc cc0_scratch0) (accM s).view.set (fun q : Fin 4 => (winM s q).view.set) f
    (fun i => wins_all s i) (fun p p' i h h' => wins_apart s p p' i h h')
  exact h

theorem accM_emb (s : Fin 2) (x : S1024x2048.Idx) : (accM s).view.emb x = (ix3 s (x 0) (x 1) : S2x1024x2048.Idx) := by
  have hx : Shape.reshapeEquiv (Shape.Squeezes.numel_eq squeezes_S1x1024x2048_S1024x2048) x
      = (ix3 (⟨0, Nat.one_pos⟩ : Fin 1) (x 0) (x 1) : S1x1024x2048.Idx) :=
    (congrArg _ (eq_ix2 x)).trans (reshapeEquiv_ix2_1ab (a := 1024) (b := 2048) _ (x 0) (x 1))
  show (accR s).emb (Shape.reshapeEquiv (Shape.Squeezes.numel_eq squeezes_S1x1024x2048_S1024x2048) x) = _
  rw [hx]
  funext a
  apply Fin.ext
  rw [ValueKit.rect_emb_unit_val]
  match a with
  | ⟨0, _⟩ => exact Nat.add_zero _
  | ⟨1, _⟩ => exact Nat.zero_add _
  | ⟨2, _⟩ => exact Nat.zero_add _

/-- A complete accumulator falls into its windows. -/
theorem acc_wins (c : Dev nD) (s : Fin 2) : accIs m c s 7 ⊢ bigSep Finset.univ fun q => winPts c s q (accF m c) := by
  unfold accIs
  iintro ⟨%f, %hf, Hf⟩
  have e : (accPts c s f : sProp 𝕄) = bigSep Finset.univ fun q => winPts c s q (accF m c) := by
    rw [← cut_wins]
    refine pointsTo_congr fun i hi => ?_
    obtain ⟨x, -, rfl⟩ := Finset.mem_map.mp hi
    show (accM s).view.read (Elt F) f x = accF m c ((accM s).view.emb x)
    rw [hf, accM_emb]
    exact congrArg (part m c s 7) (eq_ix2 x)
  iapply (Entails.of_eq e) $$ Hf

theorem wins_acc (c : Dev nD) (s : Fin 2) (f : (cc0_scratch0 : Ref sig .tc).ty.Contents (Elt F)) :
    (bigSep Finset.univ fun q => winPts c s q f) ⊢ (accAny c s : sProp 𝕄) := by
  rw [← cut_wins]
  unfold accAny
  iintro H; iexists f; iexact H

theorem bigSep_two (Φ : Fin 2 → sProp 𝕄) : bigSep Finset.univ Φ = iprop(Φ 0 ∗ Φ 1) := by
  rw [show (Finset.univ : Finset (Fin 2)) = {0, 1} from by decide, bigSep_insert (by decide), bigSep_singleton]; rfl
theorem bigSep_three (Φ : Fin 3 → sProp 𝕄) : bigSep Finset.univ Φ = iprop(Φ 0 ∗ Φ 1 ∗ Φ 2) := by
  rw [show (Finset.univ : Finset (Fin 3)) = {0, 1, 2} from by decide, bigSep_insert (by decide), bigSep_insert (by decide), bigSep_singleton]; rfl
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]; rfl
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := bigSep_dev Φ

theorem cut_acc (c : Dev nD) :
    iprop(∃ f, (c : Thread nD τ).loc cc0_scratch0 ↦{fullShare} f) ⊢ (iprop(accAny c 0 ∗ accAny c 1) : sProp 𝕄) := by
  iintro ⟨%f, Hf⟩
  ihave Hf := (Entails.of_eq (cut (ℓ := (c : Thread nD τ).loc cc0_scratch0) Finset.univ (fun s : Fin 2 => (accM s).view.set) f
    (fun i => ⟨fun _ => ⟨⟨(i 0).val, (i 0).isLt⟩, (acc_mem _ i).mpr rfl⟩, fun _ => Finset.mem_univ _⟩)
    (fun p p' i h h' => Fin.ext (((acc_mem p i).mp h).symm.trans ((acc_mem p' i).mp h'))))) $$ Hf
  ihave Hf := (Entails.of_eq (bigSep_two _)) $$ Hf
  icases Hf with ⟨H0, H1⟩
  unfold accAny
  isplitl [H0]; · iexists f; iexact H0
  iexists f; iexact H1

theorem glue_acc (c : Dev nD) :
    (iprop(accAny c 0 ∗ accAny c 1) : sProp 𝕄) ⊢ iprop(∃ f, (c : Thread nD τ).loc cc0_scratch0 ↦{fullShare} f) := by
  unfold accAny
  iintro H
  ihave H := (glue (F := F) (ℓ := (c : Thread nD τ).loc cc0_scratch0) (I := (accM 0).view.set) (J := (accM 1).view.set)
    (fun i h h' => absurd (((acc_mem 0 i).mp h).symm.trans ((acc_mem 1 i).mp h')) (by decide))) $$ H
  rw [show ((accM 0).view.set ∪ (accM 1).view.set : Finset (Idx ((c : Thread nD τ).loc cc0_scratch0))) = Finset.univ from
    Finset.eq_univ_iff_forall.mpr fun i => Finset.mem_union.mpr (by
      have h : (i 0).val < 2 := (i 0).isLt
      by_cases h0 : (i 0).val = 0
      · exact Or.inl ((acc_mem 0 i).mpr h0)
      · exact Or.inr ((acc_mem 1 i).mpr (show (i 0).val = 1 by omega)))]
  iexact H

theorem cut_xs (c : Dev nD) :
    iprop(∃ f, (c : Thread nD τ).loc cc0_scratch1 ↦{fullShare} f) ⊢ (iprop((∃ f, xSlot c 0 f) ∗ (∃ f, xSlot c 1 f) ∗ (∃ f, xSlot c 2 f)) : sProp 𝕄) := by
  iintro ⟨%f, Hf⟩
  ihave Hf := (Entails.of_eq (cut (ℓ := (c : Thread nD τ).loc cc0_scratch1) Finset.univ (fun s : Fin 3 => (xsM s).view.set) f
    (fun i => ⟨fun _ => ⟨⟨(i 0).val, (i 0).isLt⟩, (xs_mem _ i).mpr rfl⟩, fun _ => Finset.mem_univ _⟩)
    (fun p p' i h h' => Fin.ext (((xs_mem p i).mp h).symm.trans ((xs_mem p' i).mp h'))))) $$ Hf
  ihave Hf := (Entails.of_eq (bigSep_three _)) $$ Hf
  icases Hf with ⟨H0, H1, H2⟩
  isplitl [H0]; · iexists f; iexact H0
  isplitl [H1]; · iexists f; iexact H1
  iexists f; iexact H2

theorem glue_xs (c : Dev nD) :
    (iprop((∃ f, xSlot c 0 f) ∗ (∃ f, xSlot c 1 f) ∗ (∃ f, xSlot c 2 f)) : sProp 𝕄) ⊢ iprop(∃ f, (c : Thread nD τ).loc cc0_scratch1 ↦{fullShare} f) := by
  iintro ⟨H0, H⟩
  ihave H := (glue (F := F) (ℓ := (c : Thread nD τ).loc cc0_scratch1) (I := (xsM 1).view.set) (J := (xsM 2).view.set)
    (fun i h h' => absurd (((xs_mem 1 i).mp h).symm.trans ((xs_mem 2 i).mp h')) (by decide))) $$ H
  ihave H := (glue (F := F) (ℓ := (c : Thread nD τ).loc cc0_scratch1) (I := (xsM 0).view.set) (J := (xsM 1).view.set ∪ (xsM 2).view.set)
    (fun i h h' => (Finset.mem_union.mp h').elim (fun h' => absurd (((xs_mem 0 i).mp h).symm.trans ((xs_mem 1 i).mp h')) (by decide))
      (fun h' => absurd (((xs_mem 0 i).mp h).symm.trans ((xs_mem 2 i).mp h')) (by decide)))) $$ [H0 H]
  · isplitl [H0]; · iexact H0
    iexact H
  rw [show ((xsM 0).view.set ∪ ((xsM 1).view.set ∪ (xsM 2).view.set) : Finset (Idx ((c : Thread nD τ).loc cc0_scratch1))) = Finset.univ from
    Finset.eq_univ_iff_forall.mpr fun i => Finset.mem_union.mpr (by
      have h : (i 0).val < 3 := (i 0).isLt
      by_cases h0 : (i 0).val = 0
      · exact Or.inl ((xs_mem 0 i).mpr h0)
      · by_cases h1 : (i 0).val = 1
        · exact Or.inr (Finset.mem_union.mpr (Or.inl ((xs_mem 1 i).mpr h1)))
        · exact Or.inr (Finset.mem_union.mpr (Or.inr ((xs_mem 2 i).mpr (show (i 0).val = 2 by omega)))))]
  iexact H

theorem cut_ws (c : Dev nD) :
    iprop(∃ f, (c : Thread nD τ).loc cc0_scratch2 ↦{fullShare} f) ⊢ (iprop((∃ f, wSlot c 0 f) ∗ (∃ f, wSlot c 1 f) ∗ (∃ f, wSlot c 2 f)) : sProp 𝕄) := by
  iintro ⟨%f, Hf⟩
  ihave Hf := (Entails.of_eq (cut (ℓ := (c : Thread nD τ).loc cc0_scratch2) Finset.univ (fun s : Fin 3 => (wsM s).view.set) f
    (fun i => ⟨fun _ => ⟨⟨(i 0).val, (i 0).isLt⟩, (ws_mem _ i).mpr rfl⟩, fun _ => Finset.mem_univ _⟩)
    (fun p p' i h h' => Fin.ext (((ws_mem p i).mp h).symm.trans ((ws_mem p' i).mp h'))))) $$ Hf
  ihave Hf := (Entails.of_eq (bigSep_three _)) $$ Hf
  icases Hf with ⟨H0, H1, H2⟩
  isplitl [H0]; · iexists f; iexact H0
  isplitl [H1]; · iexists f; iexact H1
  iexists f; iexact H2

theorem glue_ws (c : Dev nD) :
    (iprop((∃ f, wSlot c 0 f) ∗ (∃ f, wSlot c 1 f) ∗ (∃ f, wSlot c 2 f)) : sProp 𝕄) ⊢ iprop(∃ f, (c : Thread nD τ).loc cc0_scratch2 ↦{fullShare} f) := by
  iintro ⟨H0, H⟩
  ihave H := (glue (F := F) (ℓ := (c : Thread nD τ).loc cc0_scratch2) (I := (wsM 1).view.set) (J := (wsM 2).view.set)
    (fun i h h' => absurd (((ws_mem 1 i).mp h).symm.trans ((ws_mem 2 i).mp h')) (by decide))) $$ H
  ihave H := (glue (F := F) (ℓ := (c : Thread nD τ).loc cc0_scratch2) (I := (wsM 0).view.set) (J := (wsM 1).view.set ∪ (wsM 2).view.set)
    (fun i h h' => (Finset.mem_union.mp h').elim (fun h' => absurd (((ws_mem 0 i).mp h).symm.trans ((ws_mem 1 i).mp h')) (by decide))
      (fun h' => absurd (((ws_mem 0 i).mp h).symm.trans ((ws_mem 2 i).mp h')) (by decide)))) $$ [H0 H]
  · isplitl [H0]; · iexact H0
    iexact H
  rw [show ((wsM 0).view.set ∪ ((wsM 1).view.set ∪ (wsM 2).view.set) : Finset (Idx ((c : Thread nD τ).loc cc0_scratch2))) = Finset.univ from
    Finset.eq_univ_iff_forall.mpr fun i => Finset.mem_union.mpr (by
      have h : (i 0).val < 3 := (i 0).isLt
      by_cases h0 : (i 0).val = 0
      · exact Or.inl ((ws_mem 0 i).mpr h0)
      · by_cases h1 : (i 0).val = 1
        · exact Or.inr (Finset.mem_union.mpr (Or.inl ((ws_mem 1 i).mpr h1)))
        · exact Or.inr (Finset.mem_union.mpr (Or.inr ((ws_mem 2 i).mpr (show (i 0).val = 2 by omega)))))]
  iexact H

end Cert.KernelIdealProof
-- ==== Proof.KernelIdeal.State.lean ====
/- The body at every grid point: what it holds before and after each, and the run of one. -/
module

public import proofs.«01_k».proof.Proof.KernelIdeal.Split

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The state between two steps -/

/-- The accumulator a step works on, before it. -/
def accPre (c : Dev nD) (n : ℕ) : sProp 𝕄 := if n % 8 = 0 then accAny c (halfN n) else accIs m c (halfN n) (n % 8 - 1)
/-- The second accumulator, during the first half of the grid. -/
def accRest (c : Dev nD) (n : ℕ) : sProp 𝕄 := if n < 8 then accAny c 1 else iprop(emp)
abbrev kk (k : Fin 4) : Fin 8 := ⟨k.val, by omega⟩
/-- Block `k` of the first accumulator: to be sent, or on its way. -/
def snd (c : Dev nD) (n : ℕ) (k : Fin 4) : sProp 𝕄 :=
  if n ≤ 8 + k.val then iprop(sendRes c (kk k) ∗ (if 8 ≤ n then winPts c 0 (winOf c (kk k)) (accF m c) else emp))
  else cred (tallyAt (sendCell c (kk k)) () N)
def still (c : Dev nD) (n : ℕ) : sProp 𝕄 := iprop(accPre m c n ∗ accRest c n ∗ bigSep Finset.univ (snd m c n))
/-- What only the last step touches. -/
def late (c : Dev nD) : sProp 𝕄 :=
  iprop(sendRes c 5 ∗ sendRes c 6 ∗ sendRes c 7 ∗ (∃ f, rowPts c c f)
    ∗ (bigSep Finset.univ fun k : Fin 8 => atPos ER (sendCell c k) 0 ∅ 0) ∗ bigSep Finset.univ (recvRes (F := F) c)
    ∗ semVal ((c : Thread nD τ), SemLoc.dma locS) 0 ∗ semVal (barCell c) 0)
def tables (c : Dev nD) : sProp 𝕄 := iprop(tgtPts c ∗ colPts c ∗ wcbPts c)
def world (m : (ℓ : Loc nD τ sig) → Buf (Elt F) ℓ) : sProp 𝕄 := iprop((∃ κ, recs m κ) ∗ levAts L lv)
instance world_persistent : BI.Persistent (world (F := F) m) := by unfold world; infer_instance

def stay (c : Dev nD) (n : ℕ) : sProp 𝕄 := iprop(world m ∗ ring m c n ∗ still m c n ∗ late c ∗ tables c)

/-- The tokens of one send. -/
def sendTok (c : Dev nD) (k : Fin 8) : sProp 𝕄 :=
  iprop(dutyTok ER (recvCell (tgt c k) c) 0 c ∗ reached ER (sendCell c k) 0 ∗ dutyTok ER (sendCell c k) 0 c)
/-- What the call starts from. -/
def start (c : Dev nD) : sProp 𝕄 :=
  iprop(world m ∗ (bigSep Finset.univ fun p => sigRes c p) ∗ cred (tallyAt (barCell c) () 8) ∗ atPos ER (barCell c) 0 ∅ 0
    ∗ (free m c 0 ∗ free m c 1 ∗ free m c 2) ∗ (accAny c 0 ∗ accAny c 1)
    ∗ (sendTok c 0 ∗ sendTok c 1 ∗ sendTok c 2 ∗ sendTok c 3 ∗ sendTok c 5 ∗ sendTok c 6 ∗ sendTok c 7)
    ∗ (bigSep Finset.univ fun k : Fin 8 => atPos ER (sendCell c k) 0 ∅ 0) ∗ bigSep Finset.univ (recvRes (F := F) c)
    ∗ semVal ((c : Thread nD τ), SemLoc.dma locS) 0 ∗ tables c)
/-- What it ends with: every block of the result in place and every counter back at zero. -/
def fin (c : Dev nD) : sProp 𝕄 :=
  iprop((free m c 0 ∗ free m c 1 ∗ free m c 2) ∗ (accAny c 0 ∗ accAny c 1) ∗ (bigSep Finset.univ fun p => rowPts c p (outF m c))
    ∗ (bigSep Finset.univ fun k : Fin 8 => semVal (sendCell c k) 0) ∗ (bigSep Finset.univ fun p : Dev nD => semVal (recvCell c p) 0)
    ∗ semVal ((c : Thread nD τ), SemLoc.dma locS) 0 ∗ semVal (barCell c) 0 ∗ tables c)
def state (c : Dev nD) (n : ℕ) : sProp 𝕄 := if n = 0 then start m c else if n = 16 then fin m c else stay m c n
def owedN (c : Dev nD) (n : ℕ) : CellTallies nD τ sig Unit := if n = 0 then oweB c 0 else if n = 16 then 0 else oweS c (min (n - 8) 4)

/-! ## From one step to the next -/

theorem acc_next (c : Dev nD) (n : ℕ) (h8 : n + 1 ≠ 8) (h : n < 15) :
    iprop(accIs m c (halfN n) (n % 8) ∗ accRest c n) ⊢ iprop(accPre m c (n + 1) ∗ accRest c (n + 1)) := by
  have e : accPre m c (n + 1) = accIs m c (halfN n) (n % 8) := by
    unfold accPre
    rw [if_neg (by omega), show halfN (n + 1) = halfN n from Fin.ext (show (n + 1) / 8 % 2 = n / 8 % 2 by omega),
      show (n + 1) % 8 - 1 = n % 8 by omega]
  have e' : (accRest c (n + 1) : sProp 𝕄) = accRest c n := by
    unfold accRest
    by_cases hn : n < 8
    · rw [if_pos hn, if_pos (by omega)]
    · rw [if_neg hn, if_neg (by omega)]
  rw [e, e']

theorem snd_next (c : Dev nD) (n : ℕ) (k : Fin 4) (h8 : n + 1 ≠ 8) (h : n ≠ 8 + k.val) : snd m c (n + 1) k = snd m c n k := by
  unfold snd
  by_cases h1 : n ≤ 8 + k.val
  · rw [if_pos h1, if_pos (by omega)]
    by_cases h2 : 8 ≤ n
    · rw [if_pos h2, if_pos (by omega)]
    · rw [if_neg h2, if_neg (by omega)]
  · rw [if_neg h1, if_neg (by omega)]

theorem still_next (c : Dev nD) (n : ℕ) (h8 : n + 1 ≠ 8) (h : n < 15) (hs : ¬(8 ≤ n ∧ n < 12)) :
    iprop(accIs m c (halfN n) (n % 8) ∗ accRest c n ∗ bigSep Finset.univ (snd m c n)) ⊢ still m c (n + 1) := by
  unfold still
  rw [show (bigSep Finset.univ (snd m c (n + 1)) : sProp 𝕄) = bigSep Finset.univ (snd m c n) from
    bigSep_congr fun k _ => snd_next m c n k h8 (by have := k.isLt; omega)]
  iintro ⟨Ha, Hr, Hs⟩
  ihave H := (acc_next m c n h8 h) $$ [Ha Hr]
  · isplitl [Ha]; · iexact Ha
    iexact Hr
  icases H with ⟨Ha, Hr⟩
  isplitl [Ha]; · iexact Ha
  isplitl [Hr]; · iexact Hr
  iexact Hs

/-- The windows in the order the blocks leave. -/
def winEquiv (c : Dev nD) : Fin 4 ≃ Fin 4 where
  toFun k := winOf c (kk k)
  invFun q := ⟨(q.val + 4 - c.val % 4) % 4, Nat.mod_lt _ (by decide)⟩
  left_inv k := by revert c k; decide
  right_inv q := by revert c q; decide

theorem wins_order (c : Dev nD) (Φ : Fin 4 → sProp 𝕄) : bigSep Finset.univ Φ = bigSep Finset.univ fun k => Φ (winOf c (kk k)) :=
  bigSep_univ_equiv (winEquiv c) Φ

theorem still_eight (c : Dev nD) :
    iprop(accIs m c 0 7 ∗ accAny c 1 ∗ bigSep Finset.univ (snd m c 7)) ⊢ still m c 8 := by
  have e1 : accPre m c 8 = accAny c 1 := if_pos rfl
  have e2 : (accRest c 8 : sProp 𝕄) = iprop(emp) := if_neg (by decide)
  have e3 : ∀ k, snd m c 7 k = iprop(sendRes c (kk k) ∗ emp) := fun k => by
    unfold snd; rw [if_pos (by omega), if_neg (by decide)]
  have e4 : ∀ k, snd m c 8 k = iprop(sendRes c (kk k) ∗ winPts c 0 (winOf c (kk k)) (accF m c)) := fun k => by
    unfold snd; rw [if_pos (by omega), if_pos (by decide)]
  unfold still
  rw [e1, e2, bigSep_four, bigSep_four]
  simp only [e3, e4]
  iintro ⟨Ha, H1, ⟨⟨S0, -⟩, ⟨S1, -⟩, ⟨S2, -⟩, ⟨S3, -⟩⟩⟩
  ihave Hw := (acc_wins m c 0) $$ Ha
  ihave Hw := (Entails.of_eq (wins_order c _)) $$ Hw
  ihave Hw := (Entails.of_eq (bigSep_four _)) $$ Hw
  icases Hw with ⟨W0, W1, W2, W3⟩
  isplitl [H1]; · iexact H1
  isplitr; · iempintro
  isplitl [S0 W0]
  · isplitl [S0]; · iexact S0
    iexact W0
  isplitl [S1 W1]
  · isplitl [S1]; · iexact S1
    iexact W1
  isplitl [S2 W2]
  · isplitl [S2]; · iexact S2
    iexact W2
  isplitl [S3]; · iexact S3
  iexact W3

/-- The sums over the blocks before and after block `k` leaves. -/
theorem snd_take (c : Dev nD) (k : Fin 4) :
    bigSep Finset.univ (snd m c (8 + k.val))
      ⊢ iprop((sendRes c (kk k) ∗ winPts c 0 (winOf c (kk k)) (accF m c))
        ∗ (cred (tallyAt (sendCell c (kk k)) () N) -∗ bigSep Finset.univ (snd m c (8 + k.val + 1)))) := by
  have e0 : snd m c (8 + k.val) k = iprop(sendRes c (kk k) ∗ winPts c 0 (winOf c (kk k)) (accF m c)) := by
    unfold snd; rw [if_pos le_rfl, if_pos (by omega)]
  have e1 : snd m c (8 + k.val + 1) k = cred (tallyAt (sendCell c (kk k)) () N) := by
    unfold snd; rw [if_neg (by omega)]
  have e2 : (bigSep (Finset.univ.erase k) (snd m c (8 + k.val + 1)) : sProp 𝕄) = bigSep (Finset.univ.erase k) (snd m c (8 + k.val)) :=
    bigSep_congr fun j hj => snd_next m c (8 + k.val) j (by omega) fun h => (Finset.ne_of_mem_erase hj) (Fin.ext (by omega))
  rw [bigSep_erase (Finset.mem_univ k), bigSep_erase (Φ := snd m c (8 + k.val + 1)) (Finset.mem_univ k), e0, e1, e2]
  refine (show iprop((sendRes c (kk k) ∗ winPts c 0 (winOf c (kk k)) (accF m c)) ∗ bigSep (Finset.univ.erase k) (snd m c (8 + k.val))) ⊢
    iprop((sendRes c (kk k) ∗ winPts c 0 (winOf c (kk k)) (accF m c)) ∗ (cred (tallyAt (sendCell c (kk k)) () N)
      -∗ (cred (tallyAt (sendCell c (kk k)) () N) ∗ bigSep (Finset.univ.erase k) (snd m c (8 + k.val))))) from ?_)
  iintro ⟨H, Hr⟩
  isplitl [H]; · iexact H
  iintro Hc
  isplitl [Hc]; · iexact Hc
  iexact Hr

/-- After the barrier the tokens and the rows handed over make the sends' resources. -/
theorem meet_done (c : Dev nD) :
    iprop((bigSep Finset.univ fun d => barPay c d) ∗ (sendTok c 0 ∗ sendTok c 1 ∗ sendTok c 2 ∗ sendTok c 3 ∗ sendTok c 5 ∗ sendTok c 6 ∗ sendTok c 7))
      ⊢ (iprop((sendRes c 0 ∗ sendRes c 1 ∗ sendRes c 2 ∗ sendRes c 3) ∗ sendRes c 5 ∗ sendRes c 6 ∗ sendRes c 7 ∗ (∃ f, rowPts c c f)) : sProp 𝕄) := by
  rw [bigSep_univ_equiv (tgtEquiv c) (fun d => barPay c d), bigSep_eight]
  have h4 : (barPay c (tgtEquiv c 4) : sProp 𝕄) = barPay c c := congrArg (barPay c) (tgt_four c)
  rw [h4]
  unfold barPay sendTok sendRes
  iintro ⟨⟨⟨R0, G0⟩, ⟨R1, G1⟩, ⟨R2, G2⟩, ⟨R3, G3⟩, ⟨R4, -⟩, ⟨R5, G5⟩, ⟨R6, G6⟩, ⟨R7, G7⟩⟩, ⟨D0, A0, T0⟩, ⟨D1, A1, T1⟩, ⟨D2, A2, T2⟩, ⟨D3, A3, T3⟩, ⟨D5, A5, T5⟩, ⟨D6, A6, T6⟩, ⟨D7, A7, T7⟩⟩
  isplitl [R0 G0 D0 A0 T0 R1 G1 D1 A1 T1 R2 G2 D2 A2 T2 R3 G3 D3 A3 T3]
  · isplitl [R0 G0 D0 A0 T0]
    · isplitl [R0]; · iexact R0
      isplitl [G0]; · iexact G0
      isplitl [D0]; · iexact D0
      isplitl [A0]; · iexact A0
      iexact T0
    isplitl [R1 G1 D1 A1 T1]
    · isplitl [R1]; · iexact R1
      isplitl [G1]; · iexact G1
      isplitl [D1]; · iexact D1
      isplitl [A1]; · iexact A1
      iexact T1
    isplitl [R2 G2 D2 A2 T2]
    · isplitl [R2]; · iexact R2
      isplitl [G2]; · iexact G2
      isplitl [D2]; · iexact D2
      isplitl [A2]; · iexact A2
      iexact T2
    isplitl [R3]; · iexact R3
    isplitl [G3]; · iexact G3
    isplitl [D3]; · iexact D3
    isplitl [A3]; · iexact A3
    iexact T3
  isplitl [R5 G5 D5 A5 T5]
  · isplitl [R5]; · iexact R5
    isplitl [G5]; · iexact G5
    isplitl [D5]; · iexact D5
    isplitl [A5]; · iexact A5
    iexact T5
  isplitl [R6 G6 D6 A6 T6]
  · isplitl [R6]; · iexact R6
    isplitl [G6]; · iexact G6
    isplitl [D6]; · iexact D6
    isplitl [A6]; · iexact A6
    iexact T6
  isplitl [R7 G7 D7 A7 T7]
  · isplitl [R7]; · iexact R7
    isplitl [G7]; · iexact G7
    isplitl [D7]; · iexact D7
    isplitl [A7]; · iexact A7
    iexact T7
  iexact R4

end Cert.KernelIdealProof
-- ==== Proof.KernelIdeal.Body.lean ====
/- The run of the body at one grid point. -/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The end -/

theorem rows_done (c : Dev nD) :
    iprop(rowPts c c (outF m c) ∗ bigSep Finset.univ (recvDone m c))
      ⊢ iprop((bigSep Finset.univ fun p => rowPts c p (outF m c)) ∗ bigSep Finset.univ fun p : Dev nD => semVal (recvCell c p) 0) := by
  have e : (bigSep Finset.univ (recvDone m c) : sProp 𝕄)
      = iprop((bigSep Finset.univ fun p => if p ≠ c then recvPay m c p else iprop(emp)) ∗ bigSep Finset.univ fun p : Dev nD => semVal (recvCell c p) 0) :=
    bigSep_sep' Finset.univ (fun p => if p ≠ c then recvPay m c p else iprop(emp)) fun p : Dev nD => semVal (recvCell c p) 0
  have e1 : (bigSep Finset.univ (fun p => if p ≠ c then recvPay m c p else iprop(emp)) : sProp 𝕄)
      = iprop(emp ∗ bigSep (Finset.univ.erase c) fun p => rowPts c p (outF m c)) := by
    refine (bigSep_erase (Finset.mem_univ c)).trans ?_
    rw [if_neg (not_not.mpr rfl), show (bigSep (Finset.univ.erase c) (fun p => if p ≠ c then recvPay m c p else iprop(emp)) : sProp 𝕄)
      = bigSep (Finset.univ.erase c) fun p => rowPts c p (outF m c) from bigSep_congr fun p hp => if_pos (Finset.ne_of_mem_erase hp)]
    rfl
  have e2 : (bigSep Finset.univ (fun p => rowPts c p (outF m c)) : sProp 𝕄)
      = iprop(rowPts c c (outF m c) ∗ bigSep (Finset.univ.erase c) fun p => rowPts c p (outF m c)) :=
    bigSep_erase (Finset.mem_univ c)
  rw [e, e1, e2]
  iintro ⟨Hc, ⟨-, Hr⟩, Hs⟩
  isplitr [Hs]
  · isplitl [Hc]; · iexact Hc
    iexact Hr
  iexact Hs

theorem free_mod (c : Dev nD) (n k : ℕ) (h : n % 3 = k % 3) : free m c n = free m c k := by
  unfold free; rw [show slotN n = slotN k from Fin.ext h]

/-! ## One step -/

theorem sends_drop (k : Fin 4) : sends.drop k.val = kk k :: sends.drop (k.val + 1) := by revert k; decide

/-- What holds once a step's product is there. -/
def mid (c : Dev nD) (n : ℕ) : sProp 𝕄 :=
  iprop(world m ∗ ring m c (n + 1) ∗ ow c (oweS c (min (n - 8) 4)) ∗ still m c n ∗ late c ∗ tables c)

theorem acc_first (c : Dev nD) (t : ℕ) (h : t % 8 = 0) (f : (cc0_scratch0 : Ref sig .tc).ty.Contents (Elt F))
    (v29 : FVec F S1024x2048 .f32) (hv : v29 = prodT m c (halfN t) (tileN t))
    (hf : (accM (halfN t)).view.read (Elt F) f = shapeCast S1024x2048 (k0_pay1 v29) shapeCasts_S1x1024x2048_S1024x2048) :
    accPts c (halfN t) f ⊢ accIs m c (halfN t) (t % 8) := by
  unfold accIs
  iintro H
  iexists f
  isplitr
  · ipureintro
    rw [hf, h]
    unfold k0_pay1
    refine (shapeCast_shapeCast _ _ _).trans (hv.trans ?_)
    rw [show tileN t = 0 from Fin.ext h]
    rfl
  iexact H

theorem acc_add (c : Dev nD) (t : ℕ) (h : t % 8 ≠ 0) (f f' : (cc0_scratch0 : Ref sig .tc).ty.Contents (Elt F))
    (v29 : FVec F S1024x2048 .f32) (v45 : Vec F S1x1024x2048 .f32) (hv : v29 = prodT m c (halfN t) (tileN t))
    (hw : shapeCast S1024x2048 v45 shapeCasts_S1x1024x2048_S1024x2048 = (accM (halfN t)).view.read (Elt F) f)
    (ha : (accM (halfN t)).view.read (Elt F) f = part m c (halfN t) (t % 8 - 1))
    (hf : (accM (halfN t)).view.read (Elt F) f' = shapeCast S1024x2048 (k0_pay2 v29 v45) shapeCasts_S1x1024x2048_S1024x2048) :
    accPts c (halfN t) f' ⊢ accIs m c (halfN t) (t % 8) := by
  unfold accIs
  iintro H
  iexists f'
  isplitr
  · ipureintro
    rw [hf]
    unfold k0_pay2
    refine (shapeCast_shapeCast _ _ _).trans ?_
    rw [hw, ha, hv]
    obtain ⟨j, hj⟩ : ∃ j, t % 8 = j + 1 := ⟨t % 8 - 1, by omega⟩
    rw [hj, show tileN t = (⟨(j + 1) % 8, Nat.mod_lt _ (by decide)⟩ : Fin 8) from Fin.ext (show t % 8 = (j + 1) % 8 by omega)]
    rfl
  iexact H

/-- The step's state after its addition, when no block is sent and the grid goes on. -/
theorem plain_next (c : Dev nD) (t : ℕ) (h : t < 15) (hs : ¬(8 ≤ t ∧ t < 12)) :
    iprop(accIs m c (halfN t) (t % 8) ∗ accRest c t ∗ bigSep Finset.univ (snd m c t)) ⊢ still m c (t + 1) := by
  by_cases h8 : t + 1 = 8
  · obtain rfl : t = 7 := by omega
    exact still_eight m c
  · exact still_next m c t h8 h hs

theorem owed_mid (c : Dev nD) (t : ℕ) (h : t < 15) (hs : ¬(8 ≤ t ∧ t < 12)) : owedN c (t + 1) = oweS c (min (t - 8) 4) := by
  unfold owedN; rw [if_neg (by omega), if_neg (by omega)]; congr 1; omega

theorem state_next (c : Dev nD) (t : ℕ) (h : t < 15) : state m c (t + 1) = stay m c (t + 1) := by
  unfold state; rw [if_neg (by omega), if_neg (by omega)]

theorem mid_end (c : Dev nD) (t : ℕ) (h : t < 15) (hs : ¬(8 ≤ t ∧ t < 12)) :
    iprop(world m ∗ ring m c (t + 1) ∗ ow c (oweS c (min (t - 8) 4))
        ∗ (accIs m c (halfN t) (t % 8) ∗ accRest c t ∗ bigSep Finset.univ (snd m c t)) ∗ late c ∗ tables c)
      ⊢ iprop(state m c (t + 1) ∗ ow c (owedN c (t + 1))) := by
  rw [state_next m c t h, owed_mid c t h hs]
  unfold stay
  iintro ⟨HW, HR, HO, HS, HL, HT⟩
  isplitr [HO]
  · isplitl [HW]; · iexact HW
    isplitl [HR]; · iexact HR
    isplitl [HS]; · iapply (plain_next m c t h hs); iexact HS
    isplitl [HL]; · iexact HL
    iexact HT
  iexact HO

theorem mid_sent (c : Dev nD) (t : ℕ) (h : 8 ≤ t) (h' : t < 12) :
    iprop(world m ∗ ring m c (t + 1) ∗ ow c (oweS c (t - 8 + 1))
        ∗ (accIs m c (halfN t) (t % 8) ∗ accRest c t ∗ bigSep Finset.univ (snd m c (t + 1))) ∗ late c ∗ tables c)
      ⊢ iprop(state m c (t + 1) ∗ ow c (owedN c (t + 1))) := by
  rw [state_next m c t (by omega), show owedN c (t + 1) = oweS c (t - 8 + 1) from by
    unfold owedN; rw [if_neg (by omega), if_neg (by omega)]; congr 1; omega]
  unfold stay still
  iintro ⟨HW, HR, HO, ⟨Ha, Hr, Hs⟩, HL, HT⟩
  isplitr [HO]
  · isplitl [HW]; · iexact HW
    isplitl [HR]; · iexact HR
    isplitl [Ha Hr Hs]
    · ihave H := (acc_next m c t (by omega) (by omega)) $$ [Ha Hr]
      · isplitl [Ha]; · iexact Ha
        iexact Hr
      icases H with ⟨Ha, Hr⟩
      isplitl [Ha]; · iexact Ha
      isplitl [Hr]; · iexact Hr
      iexact Hs
    isplitl [HL]; · iexact HL
    iexact HT
  iexact HO

theorem body_of (c : Dev nD) (t : Fin grid0.N) (Pre : sProp 𝕄)
    (H : ∀ Q, iprop(Pre ∗ (∀ a0 a1 v4 z v29, iprop(⌜v29 = prodT m c (halfN t.val) (tileN t.val)⌝ ∗ mid m c t.val)
        -∗ Q ⟨a0, a1, c, BitVec.ofNat 32 c.val, v4, v29, z⟩)) ⊢ wp frame (wpE (defs₀ (F := F)) 𝒱₀ (c : Thread nD τ) none) Set.univ (k0_part7 (grid0.coords t) (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) Q) :
    Pre ⊢ wp frame (wpE (defs₀ (F := F)) 𝒱₀ (c : Thread nD τ) none) Set.univ (cc0_body (grid0.coords t) (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) fun _ => iprop(state m c (t.val + 1) ∗ ow c (owedN c (t.val + 1))) := by
  rw [cc0_body_eq_skeleton]; unfold cc0_body_skel
  rw [wp_bind]
  refine BIBase.Entails.trans ?_ (H _)
  iintro HP
  isplitl [HP]; · iexact HP
  iintro %a0 %a1 %v4 %z %v29 ⟨%hv, HM⟩
  unfold mid still world
  icases HM with ⟨⟨⟨%κ, #HI⟩, #Hlev⟩, HR, HO, ⟨Hacc, Hrest, Hs⟩, Hlate, HT⟩
  unfold tables
  icases HT with ⟨Htgt, Hcol, Hwcb⟩
  simp only [semSignalWord, semWaitWord, smemLoad, smemLoadElt, Prog.lift, Prog.bind_op, Prog.bind_ret, Prog.pure_eq_ret, Prog.bind_assoc, wp_deviceId]
  have hN := N_lt t
  by_cases h8 : t.val % 8 = 0
  · have h3' : k0_cond3 (grid0.coords t) = 1#1 := (cond3_iff t).mpr h8
    have h4' : ¬k0_cond4 (grid0.coords t) = 1#1 := fun h => (cond4_iff t).mp h h8
    have h6' : ¬k0_cond6 (grid0.coords t) = 1#1 := fun h => by have := (cond6_iff t).mp h; omega
    simp only [dif_pos h3', dif_neg h4']
    ihave Hacc := (Entails.of_eq (show accPre m c t.val = accAny c (halfN t.val) from if_pos h8)) $$ Hacc
    unfold accAny
    icases Hacc with ⟨%f, Hacc⟩
    iapply (wp_accLoad c (halfN t.val) f (off26_at t)) $$ Hacc
    iintro %v45 ⟨-, Hacc⟩
    iapply (wp_accStore c (halfN t.val) f (off26_at t)) $$ Hacc
    iintro ⟨%f', %hf, Hacc⟩
    ihave Hacc := (acc_first m c t.val h8 f' v29 hv hf) $$ Hacc
    by_cases h5 : 8 ≤ t.val ∧ t.val < 12
    · have h5' : k0_cond5 (grid0.coords t) = 1#1 := (cond5_iff t).mpr h5
      simp only [dif_pos h5', dif_neg h6']
      obtain ⟨k, hk⟩ : ∃ k : Fin 4, t.val = 8 + k.val := ⟨⟨t.val - 8, by omega⟩, by show t.val = 8 + (t.val - 8); omega⟩
      have ek : t.val % 8 = k.val := by omega
      have es : min (t.val - 8) 4 = k.val := by omega
      ihave Hs := (Entails.of_eq (congrArg (fun n => bigSep Finset.univ (snd m c n)) hk)) $$ Hs
      ihave Hs := (snd_take m c k) $$ Hs
      icases Hs with ⟨⟨Hres, Hwin⟩, Hs⟩
      iapply (wp_col c k ((off28_at t).trans (by rw [ek]))) $$ Hcol
      iintro Hcol
      simp only [wp_assume_of _ _ _ _ (d := k0_chk4.dec _ _) (show k0_chk4 (grid0.coords t) (colWord c k) from chk4_at (grid0.coords t) (winOf c (kk k)))]
      iapply (wp_tgt c (kk k) ((off29_at t).trans (by rw [ek]))) $$ Htgt
      iintro Htgt
      simp only [wp_assume_of _ _ _ _ (d := k0_chk5.dec _ _) (chk5_at (grid0.coords t) (tgt c (kk k)))]
      iapply (wp_sendBlk m κ c (kk k) (fun h => absurd (congrArg Fin.val h) (Nat.ne_of_lt k.isLt)) (oweS c (min (t.val - 8) 4)) (oweS c (k.val + 1)) (by rw [es]; exact oweS_succ c k.val (kk k) (sends_drop k))
        ((off33_at (winOf c (kk k))).trans (by rw [show slotOf (kk k) = 0 from Fin.ext (show k.val / 4 = 0 by omega)]; rfl))
        (k0_off32_eq c) ((off30_at t).trans (by rw [ek])) (k0_off31_eq c) (devc9_at (grid0.coords t) (tgt c (kk k)) _)) $$ [HO Hwin Hres]
      · isplitr; · iexact HI
        isplitl [HO]; · iexact HO
        isplitl [Hwin]
        · rw [show slotOf (kk k) = 0 from Fin.ext (show k.val / 4 = 0 by omega)]; iexact Hwin
        iexact Hres
      iintro ⟨Hcr, HO⟩
      ihave Hs := Hs $$ Hcr
      ihave Hs := (Entails.of_eq (congrArg (fun n => bigSep Finset.univ (snd m c (n + 1))) hk.symm)) $$ Hs
      ihave HO := (Entails.of_eq (congrArg (fun n => ow (F := F) c (oweS c (n + 1))) (show k.val = t.val - 8 by omega))) $$ HO
      iapply (le_wp_ret _ _ _ _ _)
      iapply (mid_sent m c t.val h5.1 h5.2)
      isplitr
      · unfold world
        isplitr
        · iexists κ; iexact HI
        iexact Hlev
      isplitl [HR]; · iexact HR
      isplitl [HO]; · iexact HO
      isplitl [Hacc Hrest Hs]
      · isplitl [Hacc]; · iexact Hacc
        isplitl [Hrest]; · iexact Hrest
        iexact Hs
      isplitl [Hlate]; · iexact Hlate
      unfold tables
      isplitl [Htgt]; · iexact Htgt
      isplitl [Hcol]; · iexact Hcol
      iexact Hwcb
    · have h5' : ¬k0_cond5 (grid0.coords t) = 1#1 := fun h => h5 ((cond5_iff t).mp h)
      simp only [dif_neg h5', dif_neg h6']
      iapply (le_wp_ret _ _ _ _ _)
      iapply (mid_end m c t.val (by omega) h5)
      isplitr
      · unfold world
        isplitr
        · iexists κ; iexact HI
        iexact Hlev
      isplitl [HR]; · iexact HR
      isplitl [HO]; · iexact HO
      isplitl [Hacc Hrest Hs]
      · isplitl [Hacc]; · iexact Hacc
        isplitl [Hrest]; · iexact Hrest
        iexact Hs
      isplitl [Hlate]; · iexact Hlate
      unfold tables
      isplitl [Htgt]; · iexact Htgt
      isplitl [Hcol]; · iexact Hcol
      iexact Hwcb
  · have h3' : ¬k0_cond3 (grid0.coords t) = 1#1 := fun h => h8 ((cond3_iff t).mp h)
    have h4' : k0_cond4 (grid0.coords t) = 1#1 := (cond4_iff t).mpr h8
    simp only [dif_neg h3', dif_pos h4']
    ihave Hacc := (Entails.of_eq (show accPre m c t.val = accIs m c (halfN t.val) (t.val % 8 - 1) from if_neg h8)) $$ Hacc
    ihave Hacc := (Entails.of_eq (show accIs m c (halfN t.val) (t.val % 8 - 1) = iprop(∃ f, ⌜(accM (halfN t.val)).view.read (Elt F) f = part m c (halfN t.val) (t.val % 8 - 1)⌝ ∗ accPts c (halfN t.val) f) from rfl)) $$ Hacc
    icases Hacc with ⟨%f, %ha, Hacc⟩
    iapply (wp_accLoad c (halfN t.val) f (off27_at t)) $$ Hacc
    iintro %v45 ⟨%hw, Hacc⟩
    iapply (wp_accLoad c (halfN t.val) f (off27_at t)) $$ Hacc
    iintro %v49 ⟨-, Hacc⟩
    iapply (wp_accStore c (halfN t.val) f (off27_at t)) $$ Hacc
    iintro ⟨%f', %hf, Hacc⟩
    ihave Hacc := (acc_add m c t.val h8 f f' v29 v45 hv hw ha hf) $$ Hacc
    by_cases h5 : 8 ≤ t.val ∧ t.val < 12
    · have h5' : k0_cond5 (grid0.coords t) = 1#1 := (cond5_iff t).mpr h5
      have h6' : ¬k0_cond6 (grid0.coords t) = 1#1 := fun h => by have := (cond6_iff t).mp h; omega
      simp only [dif_pos h5', dif_neg h6']
      obtain ⟨k, hk⟩ : ∃ k : Fin 4, t.val = 8 + k.val := ⟨⟨t.val - 8, by omega⟩, by show t.val = 8 + (t.val - 8); omega⟩
      have ek : t.val % 8 = k.val := by omega
      have es : min (t.val - 8) 4 = k.val := by omega
      ihave Hs := (Entails.of_eq (congrArg (fun n => bigSep Finset.univ (snd m c n)) hk)) $$ Hs
      ihave Hs := (snd_take m c k) $$ Hs
      icases Hs with ⟨⟨Hres, Hwin⟩, Hs⟩
      iapply (wp_col c k ((off28_at t).trans (by rw [ek]))) $$ Hcol
      iintro Hcol
      simp only [wp_assume_of _ _ _ _ (d := k0_chk4.dec _ _) (show k0_chk4 (grid0.coords t) (colWord c k) from chk4_at (grid0.coords t) (winOf c (kk k)))]
      iapply (wp_tgt c (kk k) ((off29_at t).trans (by rw [ek]))) $$ Htgt
      iintro Htgt
      simp only [wp_assume_of _ _ _ _ (d := k0_chk5.dec _ _) (chk5_at (grid0.coords t) (tgt c (kk k)))]
      iapply (wp_sendBlk m κ c (kk k) (fun h => absurd (congrArg Fin.val h) (Nat.ne_of_lt k.isLt)) (oweS c (min (t.val - 8) 4)) (oweS c (k.val + 1)) (by rw [es]; exact oweS_succ c k.val (kk k) (sends_drop k))
        ((off33_at (winOf c (kk k))).trans (by rw [show slotOf (kk k) = 0 from Fin.ext (show k.val / 4 = 0 by omega)]; rfl))
        (k0_off32_eq c) ((off30_at t).trans (by rw [ek])) (k0_off31_eq c) (devc9_at (grid0.coords t) (tgt c (kk k)) _)) $$ [HO Hwin Hres]
      · isplitr; · iexact HI
        isplitl [HO]; · iexact HO
        isplitl [Hwin]
        · rw [show slotOf (kk k) = 0 from Fin.ext (show k.val / 4 = 0 by omega)]; iexact Hwin
        iexact Hres
      iintro ⟨Hcr, HO⟩
      ihave Hs := Hs $$ Hcr
      ihave Hs := (Entails.of_eq (congrArg (fun n => bigSep Finset.univ (snd m c (n + 1))) hk.symm)) $$ Hs
      ihave HO := (Entails.of_eq (congrArg (fun n => ow (F := F) c (oweS c (n + 1))) (show k.val = t.val - 8 by omega))) $$ HO
      iapply (le_wp_ret _ _ _ _ _)
      iapply (mid_sent m c t.val h5.1 h5.2)
      isplitr
      · unfold world
        isplitr
        · iexists κ; iexact HI
        iexact Hlev
      isplitl [HR]; · iexact HR
      isplitl [HO]; · iexact HO
      isplitl [Hacc Hrest Hs]
      · isplitl [Hacc]; · iexact Hacc
        isplitl [Hrest]; · iexact Hrest
        iexact Hs
      isplitl [Hlate]; · iexact Hlate
      unfold tables
      isplitl [Htgt]; · iexact Htgt
      isplitl [Hcol]; · iexact Hcol
      iexact Hwcb
    · have h5' : ¬k0_cond5 (grid0.coords t) = 1#1 := fun h => h5 ((cond5_iff t).mp h)
      by_cases ht : t.val = 15
      · have h6' : k0_cond6 (grid0.coords t) = 1#1 := (cond6_iff t).mpr ht
        simp only [dif_neg h5', dif_pos h6']
        obtain rfl : t = ⟨15, by rw [N_0]; decide⟩ := Fin.ext ht
        unfold late
        icases Hlate with ⟨S5, S6, S7, Hrow, Hat, Hrecv, Hloc, Hbar⟩
        ihave Hat := (Entails.of_eq (bigSep_eight _)) $$ Hat
        icases Hat with ⟨A0, A1, A2, A3, A4, A5, A6, A7⟩
        ihave Hrecv := (Entails.of_eq (bigSep_dev _)) $$ Hrecv
        icases Hrecv with ⟨R0, R1, R2, R3, R4, R5, R6, R7⟩
        ihave Hs := (Entails.of_eq (bigSep_four _)) $$ Hs
        icases Hs with ⟨C0, C1, C2, C3⟩
        ihave C0 := (Entails.of_eq (show snd m c 15 0 = cred (tallyAt (sendCell c 0) () N) from if_neg (by decide))) $$ C0
        ihave C1 := (Entails.of_eq (show snd m c 15 1 = cred (tallyAt (sendCell c 1) () N) from if_neg (by decide))) $$ C1
        ihave C2 := (Entails.of_eq (show snd m c 15 2 = cred (tallyAt (sendCell c 2) () N) from if_neg (by decide))) $$ C2
        ihave C3 := (Entails.of_eq (show snd m c 15 3 = cred (tallyAt (sendCell c 3) () N) from if_neg (by decide))) $$ C3
        ihave Hacc := (Entails.of_eq (show accIs m c (halfN 15) (15 % 8) = accIs m c 1 7 from rfl)) $$ Hacc
        ihave Hacc := (acc_wins m c 1) $$ Hacc
        ihave Hacc := (Entails.of_eq (wins_order c _)) $$ Hacc
        ihave Hacc := (Entails.of_eq (bigSep_four _)) $$ Hacc
        icases Hacc with ⟨W0, W1, W2, W3⟩
        ihave W0 := (Entails.of_eq (show winPts c 1 (winOf c (kk 0)) (accF m c) = winPts c 1 (place c) (accF m c) from congrArg (fun q => winPts (F := F) c 1 q (accF m c)) (win_zero c))) $$ W0
        iapply (fupd_wp _ _ _ _ _)
        imod (close_none m (κ (sendCell c 4)) (sendCell c 4) (duties_send_four m c)) $$ [A4] with V4
        · isplitr; · iapply (recs_at m κ (send_mem c 4)); iexact HI
          iexact A4
        imodintro
        rw [wp_bind]
        iapply (part3_run m κ c _ h6' _ _)
        isplitr; · iexact HI
        isplitl [HO]; · iexact HO
        isplitl [Htgt]; · iexact Htgt
        isplitl [Hcol]; · iexact Hcol
        isplitl [Hloc]; · iexact Hloc
        isplitl [W0]; · iexact W0
        isplitl [Hrow]; · iexact Hrow
        isplitl [W1]; · iexact W1
        isplitl [S5]; · iexact S5
        iintro %h9 %h10 ⟨HF, C5, HO, Htgt, Hcol⟩
        dsimp only
        rw [wp_bind]
        iapply (part4_run m κ c _ h6' h9 h10 _)
        isplitr; · iexact HI
        isplitl [HO]; · iexact HO
        isplitl [Htgt]; · iexact Htgt
        isplitl [Hcol]; · iexact Hcol
        isplitl [HF]; · iexact HF
        isplitl [W2]; · iexact W2
        isplitl [S6]; · iexact S6
        isplitl [W3]; · iexact W3
        isplitl [S7]; · iexact S7
        isplitl [R0]; · iexact R0
        isplitl [R1]; · iexact R1
        isplitl [R2]; · iexact R2
        iintro ⟨⟨Hrow, W0, Hloc⟩, C6, C7, R0, R1, R2, HO, Htgt, Hcol⟩
        rw [wp_bind]
        iapply (part5_run m κ c _ _)
        isplitr; · iexact HI
        isplitl [HO]; · iexact HO
        isplitl [R3]; · iexact R3
        isplitl [R4]; · iexact R4
        isplitl [R5]; · iexact R5
        isplitl [R6]; · iexact R6
        isplitl [R7]; · iexact R7
        isplitl [C0 A0]
        · unfold backRes; isplitl [C0]; · iexact C0
          iexact A0
        isplitl [C1 A1]
        · unfold backRes; isplitl [C1]; · iexact C1
          iexact A1
        iintro ⟨HO, R3, R4, R5, R6, R7, B0, B1⟩
        rw [wp_bind]
        iapply (part6_run m κ c _ _)
        isplitr; · iexact HI
        isplitl [HO]; · iexact HO
        isplitl [C2 A2]
        · unfold backRes; isplitl [C2]; · iexact C2
          iexact A2
        isplitl [C3 A3]
        · unfold backRes; isplitl [C3]; · iexact C3
          iexact A3
        isplitl [C5 A5]
        · unfold backRes; isplitl [C5]; · iexact C5
          iexact A5
        isplitl [C6 A6]
        · unfold backRes; isplitl [C6]; · iexact C6
          iexact A6
        iintro ⟨HO, B2, B3, B5, B6⟩
        iapply (wp_sendWait m κ c 7 (by decide) rfl (N_win 1 0)) $$ [HO C7 A7]
        · isplitr; · iexact HI
          isplitl [HO]; · iexact HO
          isplitl [C7]; · iexact C7
          iexact A7
        iintro ⟨W7, V7, HO⟩
        iapply (le_wp_ret _ _ _ _ _)
        unfold backDone
        icases B0 with ⟨X0, V0⟩
        icases B1 with ⟨X1, V1⟩
        icases B2 with ⟨X2, V2⟩
        icases B3 with ⟨X3, V3⟩
        icases B5 with ⟨X5, V5⟩
        icases B6 with ⟨X6, V6⟩
        isplitr [HO]
        · iapply (Entails.of_eq (show fin m c = state m c (15 + 1) from (if_neg (by decide)).trans (if_pos rfl) |>.symm))
          unfold fin
          isplitl [HR]
          · unfold ring
            icases HR with ⟨F0, F1, F2⟩
            isplitl [F2]
            · iapply (Entails.of_eq (free_mod m c 18 0 rfl)); iexact F2
            isplitl [F0]
            · iapply (Entails.of_eq ((ahead_free m c 16 (by decide)).trans (free_mod m c 16 1 rfl))); iexact F0
            iapply (Entails.of_eq ((ahead_free m c 17 (by decide)).trans (free_mod m c 17 2 rfl))); iexact F1
          isplitl [X0 X1 X2 X3 W0 X5 X6 W7]
          · isplitl [X0 X1 X2 X3]
            · iapply (wins_acc c 0 (accF m c))
              iapply (Entails.of_eq (wins_order c _).symm)
              iapply (Entails.of_eq (bigSep_four _).symm)
              isplitl [X0]
              · iapply (Entails.of_eq (show sendPay m c 0 = winPts c 0 (winOf c (kk 0)) (accF m c) from rfl)); iexact X0
              isplitl [X1]
              · iapply (Entails.of_eq (show sendPay m c 1 = winPts c 0 (winOf c (kk 1)) (accF m c) from rfl)); iexact X1
              isplitl [X2]
              · iapply (Entails.of_eq (show sendPay m c 2 = winPts c 0 (winOf c (kk 2)) (accF m c) from rfl)); iexact X2
              iapply (Entails.of_eq (show sendPay m c 3 = winPts c 0 (winOf c (kk 3)) (accF m c) from rfl)); iexact X3
            iapply (wins_acc c 1 (accF m c))
            iapply (Entails.of_eq (wins_order c _).symm)
            iapply (Entails.of_eq (bigSep_four _).symm)
            isplitl [W0]
            · iapply (Entails.of_eq (show winPts c 1 (place c) (accF m c) = winPts c 1 (winOf c (kk 0)) (accF m c) from congrArg (fun q => winPts (F := F) c 1 q (accF m c)) (win_zero c).symm)); iexact W0
            isplitl [X5]
            · iapply (Entails.of_eq (show sendPay m c 5 = winPts c 1 (winOf c (kk 1)) (accF m c) from congrArg (fun q => winPts (F := F) c 1 q (accF m c)) (win_five c))); iexact X5
            isplitl [X6]
            · iapply (Entails.of_eq (show sendPay m c 6 = winPts c 1 (winOf c (kk 2)) (accF m c) from congrArg (fun q => winPts (F := F) c 1 q (accF m c)) (win_six c))); iexact X6
            iapply (Entails.of_eq (show sendPay m c 7 = winPts c 1 (winOf c (kk 3)) (accF m c) from congrArg (fun q => winPts (F := F) c 1 q (accF m c)) (win_seven c))); iexact W7
          ihave HRR := (rows_done m c) $$ [Hrow R0 R1 R2 R3 R4 R5 R6 R7]
          · isplitl [Hrow]; · iexact Hrow
            iapply (Entails.of_eq (bigSep_dev _).symm)
            isplitl [R0]; · iexact R0
            isplitl [R1]; · iexact R1
            isplitl [R2]; · iexact R2
            isplitl [R3]; · iexact R3
            isplitl [R4]; · iexact R4
            isplitl [R5]; · iexact R5
            isplitl [R6]; · iexact R6
            iexact R7
          icases HRR with ⟨Hrows, Hrv⟩
          isplitl [Hrows]; · iexact Hrows
          isplitl [V0 V1 V2 V3 V4 V5 V6 V7]
          · iapply (Entails.of_eq (bigSep_eight _).symm)
            isplitl [V0]; · iexact V0
            isplitl [V1]; · iexact V1
            isplitl [V2]; · iexact V2
            isplitl [V3]; · iexact V3
            isplitl [V4]; · iexact V4
            isplitl [V5]; · iexact V5
            isplitl [V6]; · iexact V6
            iexact V7
          isplitl [Hrv]; · iexact Hrv
          isplitl [Hloc]; · iexact Hloc
          isplitl [Hbar]; · iexact Hbar
          unfold tables
          isplitl [Htgt]; · iexact Htgt
          isplitl [Hcol]; · iexact Hcol
          iexact Hwcb
        iapply (Entails.of_eq (congrArg (ow (F := F) c) (show (0 : CellTallies nD τ sig Unit) = owedN c (15 + 1) from (if_neg (by decide)).trans (if_pos rfl) |>.symm))); iexact HO
      · have h6' : ¬k0_cond6 (grid0.coords t) = 1#1 := fun h => ht ((cond6_iff t).mp h)
        simp only [dif_neg h5', dif_neg h6']
        iapply (le_wp_ret _ _ _ _ _)
        iapply (mid_end m c t.val (by omega) h5)
        isplitr
        · unfold world
          isplitr
          · iexists κ; iexact HI
          iexact Hlev
        isplitl [HR]; · iexact HR
        isplitl [HO]; · iexact HO
        isplitl [Hacc Hrest Hs]
        · isplitl [Hacc]; · iexact Hacc
          isplitl [Hrest]; · iexact Hrest
          iexact Hs
        isplitl [Hlate]; · iexact Hlate
        unfold tables
        isplitl [Htgt]; · iexact Htgt
        isplitl [Hcol]; · iexact Hcol
        iexact Hwcb

/-- The body at point `t`, from the state before it to the state after. -/
theorem body_run (c : Dev nD) (t : Fin grid0.N) :
    iprop(state m c t.val ∗ ow c (owedN c t.val))
      ⊢ wp frame (wpE (defs₀ (F := F)) 𝒱₀ (c : Thread nD τ) none) Set.univ (cc0_body (grid0.coords t) (Memref.whole main_v23) (Memref.isWhole_whole _) (Memref.whole main_v25) (Memref.isWhole_whole _) (Memref.whole main_v16) (Memref.isWhole_whole _) xA (Memref.isWhole_whole _) wA (Memref.isWhole_whole _) oA (Memref.isWhole_whole _) aA (Memref.isWhole_whole _) xB (Memref.isWhole_whole _) wB (Memref.isWhole_whole _) cc0_scratch3 cc0_scratch4 cc0_scratch5 cc0_scratch6 cc0_scratch7) fun _ => iprop(state m c (t.val + 1) ∗ ow c (owedN c (t.val + 1))) := by
  refine body_of m c t _ fun Q => ?_
  have hN := N_lt t
  by_cases h0 : t.val = 0
  · rw [show state m c t.val = start m c from if_pos h0, show owedN c t.val = oweB c 0 from if_pos h0]
    unfold start world
    iintro ⟨⟨⟨⟨⟨%κ, #HI⟩, #Hlev⟩, Hsig, Hc, Ha, ⟨Hf0, Hf1, Hf2⟩, ⟨Ha0, Ha1⟩, Htok, Hat, Hrecv, Hloc, HT⟩, HO⟩, Hk⟩
    unfold tables
    icases HT with ⟨Htgt, Hcol, Hwcb⟩
    iapply (part7_zero m κ c t h0 (oweS c (min (t.val - 8) 4)) (congrArg (oweS c) (by omega)) (fun sm hs => mayWait_low c sm hs _) Q)
    isplitr; · iexact HI
    isplitl [HO]; · iexact HO
    isplitr; · iexact Hlev
    isplitl [Hsig]; · iexact Hsig
    isplitl [Hc]; · iexact Hc
    isplitl [Ha]; · iexact Ha
    isplitl [Hf0]; · iexact Hf0
    isplitl [Hf1]; · iexact Hf1
    isplitl [Hf2]; · iexact Hf2
    isplitl [Hwcb]; · iexact Hwcb
    iintro ⟨Hp, Hbar⟩
    iintro %a0 %a1 %v4 %z %v29 ⟨%hv, HR, HO, Hwcb⟩
    iapply Hk
    isplitr; · ipureintro; exact hv
    ihave HM := (meet_done c) $$ [Hp Htok]
    · isplitl [Hp]; · iexact Hp
      iexact Htok
    icases HM with ⟨⟨S0, S1, S2, S3⟩, S5, S6, S7, Hrow⟩
    unfold mid still late world tables
    isplitr
    · isplitr
      · iexists κ; iexact HI
      iexact Hlev
    isplitl [HR]; · iexact HR
    isplitl [HO]; · iexact HO
    isplitl [Ha0 Ha1 S0 S1 S2 S3]
    · isplitl [Ha0]
      · iapply (Entails.of_eq (show (accAny c 0 : sProp 𝕄) = accPre m c t.val from by
          unfold accPre; rw [h0]; rfl)); iexact Ha0
      isplitl [Ha1]
      · iapply (Entails.of_eq (show (accAny c 1 : sProp 𝕄) = accRest c t.val from by
          unfold accRest; rw [h0]; rfl)); iexact Ha1
      iapply (Entails.of_eq (bigSep_four _).symm)
      have e : ∀ k, snd m c t.val k = iprop(sendRes c (kk k) ∗ emp) := fun k => by
        unfold snd; rw [if_pos (by omega), if_neg (by omega)]
      simp only [e]
      isplitl [S0]; · isplitl; · iexact S0
                      iempintro
      isplitl [S1]; · isplitl; · iexact S1
                      iempintro
      isplitl [S2]; · isplitl; · iexact S2
                      iempintro
      isplitl [S3]; · iexact S3
      iempintro
    isplitl [S5 S6 S7 Hrow Hat Hrecv Hloc Hbar]
    · isplitl [S5]; · iexact S5
      isplitl [S6]; · iexact S6
      isplitl [S7]; · iexact S7
      isplitl [Hrow]; · iexact Hrow
      isplitl [Hat]; · iexact Hat
      isplitl [Hrecv]; · iexact Hrecv
      isplitl [Hloc]; · iexact Hloc
      iexact Hbar
    isplitl [Htgt]; · iexact Htgt
    isplitl [Hcol]; · iexact Hcol
    iexact Hwcb
  · rw [show state m c t.val = stay m c t.val from (if_neg h0).trans (if_neg (by omega)),
      show owedN c t.val = oweS c (min (t.val - 8) 4) from (if_neg h0).trans (if_neg (by omega))]
    unfold stay world
    iintro ⟨⟨⟨⟨⟨%κ, #HI⟩, #Hlev⟩, HR, HS, HL, HT⟩, HO⟩, Hk⟩
    unfold tables
    icases HT with ⟨Htgt, Hcol, Hwcb⟩
    iapply (part7_pos m c t h0 (oweS c (min (t.val - 8) 4)) (fun sm hs => mayWait_low c sm hs _) Q)
    isplitl [HO]; · iexact HO
    isplitr; · iexact Hlev
    isplitl [HR]; · iexact HR
    isplitl [Hwcb]; · iexact Hwcb
    iintro %a0 %a1 %v4 %z %v29 ⟨%hv, HR, HO, Hwcb⟩
    iapply Hk
    isplitr; · ipureintro; exact hv
    unfold mid world tables
    isplitr
    · isplitr
      · iexists κ; iexact HI
      iexact Hlev
    isplitl [HR]; · iexact HR
    isplitl [HO]; · iexact HO
    isplitl [HS]; · iexact HS
    isplitl [HL]; · iexact HL
    isplitl [Htgt]; · iexact Htgt
    isplitl [Hcol]; · iexact Hcol
    iexact Hwcb

end Cert.KernelIdealProof
-- ==== Proof.KernelIdeal.Tables.lean ====
/- The three tables the host computes for the call, on each device. -/
module

public import proofs.«01_k».proof.Proof.KernelIdeal.Steps2
public import proofs.«01_k».proof.Proof.Gen.KernelIdeal.Regions

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- A word in a scalar buffer. -/
abbrev sc (n : ℕ) : IVec S_ 32 := fun _ => BitVec.ofNat 32 n

/-- The quotient by four, rounded down, as the host spells it. -/
abbrev quo (A B : IVec S_ 32) : IVec S_ 32 :=
  select (andi (cmpi .ne (signi A) (signi B)) (cmpi .ne (Host.remsi A B) (constantI S_ 32 0#32)))
    (subi (Host.divsi A B) (constantI S_ 32 1#32)) (Host.divsi A B)

abbrev safe (B : IVec S_ 32) : IVec S_ 32 := select (cmpi .eq B (constantI S_ 32 0#32)) (constantI S_ 32 1#32) B

/-- The remainder with the sign of the divisor. -/
abbrev rmd (A B : IVec S_ 32) : IVec S_ 32 :=
  select (andi (cmpi .ne (cmpi .slt (Host.remsi A (safe B)) (constantI S_ 32 0#32)) (cmpi .slt (safe B) (constantI S_ 32 0#32)))
      (cmpi .ne (Host.remsi A (safe B)) (constantI S_ 32 0#32)))
    (addi (Host.remsi A (safe B)) (safe B)) (Host.remsi A (safe B))

abbrev b4 {w : ℕ} (B : IVec S_ w) : IVec S4 w := broadcastInDim S4 ![] bcast_S_S4 B

abbrev rmd4 (A : IVec S4 32) (B : IVec S_ 32) : IVec S4 32 :=
  select (andi (cmpi .ne (cmpi .slt (Host.remsi A (b4 (safe B))) (b4 (constantI S_ 32 0#32)))
      (b4 (cmpi .slt (safe B) (constantI S_ 32 0#32))))
      (cmpi .ne (Host.remsi A (b4 (safe B))) (b4 (constantI S_ 32 0#32))))
    (addi (Host.remsi A (b4 (safe B))) (b4 (safe B))) (Host.remsi A (b4 (safe B)))

/-- The number of the window that starts the ring, and those after it. -/
abbrev winW (c : Dev nD) : IVec S4 32 := fun i => BitVec.ofNat 32 ((c.val % 4 + (i 0).val) % 4)

theorem word_eq : ∀ c : Dev nD, ∀ i, Host.remui (Host.divui (constantI S_ 32 c.word) (constantI S_ 32 1#32)) (constantI S_ 32 8#32) i
    = sc c.val i := by decide +kernel
theorem quo_eq : ∀ c : Dev nD, ∀ i, quo (sc c.val) (sc 4) i = sc (c.val / 4) i := by decide +kernel
theorem rmd_eq : ∀ c : Dev nD, ∀ i, rmd (sc c.val) (sc 4) i = sc (c.val % 4) i := by decide +kernel
theorem rmd4_eq : ∀ c : Dev nD, ∀ i,
    rmd4 (addi (b4 (sc (c.val % 4))) (iotaInDim S4 32 0)) (sc 4) i = winW c i := by decide +kernel
theorem one_sub : ∀ c : Dev nD, ∀ i, subi (constantI S_ 32 1#32) (sc (c.val / 4)) i = sc (1 - c.val / 4) i := by decide +kernel
theorem wcb_eq : ∀ c : Dev nD, ∀ i, muli (concatenate S2 0 [⟨S1, broadcastInDim S1 ![] bcast_S_S1 (sc (1 - c.val / 4))⟩,
    ⟨S1, broadcastInDim S1 ![] bcast_S_S1 (sc (c.val / 4))⟩] concatenates_S1_S1_S2_d0)
    (broadcastInDim S2 ![] bcast_S_S2 (constantI S_ 32 2048#32)) i = BitVec.ofNat 32 (2048 * (gsel c (i 0)).val) := by
  decide +kernel
theorem tgt_eq : ∀ c : Dev nD, ∀ i, concatenate S8 0 [⟨S4, addi (b4 (muli (sc (1 - c.val / 4)) (constantI S_ 32 4#32))) (winW c)⟩,
    ⟨S4, addi (b4 (muli (sc (c.val / 4)) (constantI S_ 32 4#32))) (winW c)⟩] concatenates_S4_S4_S8_d0 i
    = BitVec.ofNat 32 (tgt c (i 0)).val := by
  decide +kernel
theorem col_eq : ∀ c : Dev nD, ∀ i, muli (winW c) (b4 (constantI S_ 32 512#32)) i
    = BitVec.ofNat 32 (512 * ((c.val % 4 + (i 0).val) % 4)) := by
  decide +kernel

theorem step1 (V : Valuation τ sig (Elt F)) (A B : IVec S_ 32)
    (h : V main_v4 = A) (h' : V main_c_1 = B) : StableHlo.after hostOps0_1 V main_v5 = quo A B := by
  unfold hostOps0_1
  after_results
  rw [h, h']
  rfl
theorem step3 (V : Valuation τ sig (Elt F)) (A B : IVec S_ 32)
    (h : V main_v4 = A) (h' : V main_c_2 = B) : StableHlo.after hostOps0_3 V main_v6 = rmd A B := by
  unfold hostOps0_3
  after_results
  simp -implicitDefEqProofs only [StableHlo.TRef.toBuf, StableHlo.TRef.ofBuf, cast_cast, cast_eq, id_eq]
  rw [h, h']
theorem step5 (V : Valuation τ sig (Elt F)) (A : IVec S4 32) (B : IVec S_ 32)
    (h : V main_v10 = A) (h' : V main_c_4 = B) : StableHlo.after hostOps0_5 V main_v11 = rmd4 A B := by
  unfold hostOps0_5
  after_results
  simp -implicitDefEqProofs only [StableHlo.TRef.toBuf, StableHlo.TRef.ofBuf, cast_cast, cast_eq, id_eq]
  rw [h, h']

theorem V1_v4 (c : Dev nD) : V1 m c main_v4 = sc c.val := by
  unfold V1 hostOps0
  after_results
  exact funext (word_eq c)
theorem V1_c1 (c : Dev nD) : V1 m c main_c_1 = sc 4 := by
  unfold V1 hostOps0
  after_results
  rfl
theorem V2_v5 (c : Dev nD) : V2 m c main_v5 = sc (c.val / 4) :=
  (step1 _ _ _ (V1_v4 m c) (V1_c1 m c)).trans (funext (quo_eq c))
theorem V3_c2 (c : Dev nD) : V3 m c main_c_2 = sc 4 := by
  unfold V3 hostOps0_2
  after_results
  rfl
theorem V3_v4 (c : Dev nD) : V3 m c main_v4 = sc c.val :=
  (V3_of m c _ (by decide)).trans ((V2_of m c _ (by decide)).trans (V1_v4 m c))
theorem V4_v6 (c : Dev nD) : V4 m c main_v6 = sc (c.val % 4) :=
  (step3 _ _ _ (V3_v4 m c) (V3_c2 m c)).trans (funext (rmd_eq c))
theorem V4_v5 (c : Dev nD) : V4 m c main_v5 = sc (c.val / 4) :=
  (V4_of m c _ (by decide)).trans ((V3_of m c _ (by decide)).trans (V2_v5 m c))
theorem step4a (V : Valuation τ sig (Elt F)) (A : IVec S_ 32)
    (h : V main_v6 = A) : StableHlo.after hostOps0_4 V main_v10 = addi (b4 A) (iotaInDim S4 32 0) := by
  unfold hostOps0_4
  after_results
  rw [h]
theorem step4b (V : Valuation τ sig (Elt F)) (A : IVec S_ 32)
    (h : V main_v5 = A) : StableHlo.after hostOps0_4 V main_v7 = subi (constantI S_ 32 1#32) A := by
  unfold hostOps0_4
  after_results
  rw [h]
theorem V5_c4 (c : Dev nD) : V5 m c main_c_4 = sc 4 := by
  unfold V5 hostOps0_4
  after_results
  rfl
theorem V5_v7 (c : Dev nD) : V5 m c main_v7 = sc (1 - c.val / 4) :=
  (step4b _ _ (V4_v5 m c)).trans (funext (one_sub c))
theorem V6_v11 (c : Dev nD) : V6 m c main_v11 = winW c :=
  (step5 _ _ _ (step4a _ _ (V4_v6 m c)) (V5_c4 m c)).trans (funext (rmd4_eq c))
theorem V6_v7 (c : Dev nD) : V6 m c main_v7 = sc (1 - c.val / 4) := (V6_of m c _ (by decide)).trans (V5_v7 m c)
theorem V6_v5 (c : Dev nD) : V6 m c main_v5 = sc (c.val / 4) :=
  (V6_of m c _ (by decide)).trans ((V5_of m c _ (by decide)).trans (V4_v5 m c))

theorem step6a (V : Valuation τ sig (Elt F)) (A B : IVec S_ 32)
    (h : V main_v7 = A) (h' : V main_v5 = B) : StableHlo.after hostOps0_6 V main_v16 =
      muli (concatenate S2 0 [⟨S1, broadcastInDim S1 ![] bcast_S_S1 A⟩, ⟨S1, broadcastInDim S1 ![] bcast_S_S1 B⟩]
        concatenates_S1_S1_S2_d0) (broadcastInDim S2 ![] bcast_S_S2 (constantI S_ 32 2048#32)) := by
  unfold hostOps0_6
  after_results
  rw [h, h']
theorem step6b (V : Valuation τ sig (Elt F)) (A B : IVec S_ 32) (C : IVec S4 32)
    (h : V main_v7 = A) (h' : V main_v5 = B) (h'' : V main_v11 = C) : StableHlo.after hostOps0_6 V main_v23 =
      concatenate S8 0 [⟨S4, addi (b4 (muli A (constantI S_ 32 4#32))) C⟩,
        ⟨S4, addi (b4 (muli B (constantI S_ 32 4#32))) C⟩] concatenates_S4_S4_S8_d0 := by
  unfold hostOps0_6
  after_results
  rw [h, h', h'']
theorem step6c (V : Valuation τ sig (Elt F)) (C : IVec S4 32)
    (h'' : V main_v11 = C) : StableHlo.after hostOps0_6 V main_v25 = muli C (b4 (constantI S_ 32 512#32)) := by
  unfold hostOps0_6
  after_results
  rw [h'']

theorem V7_wcb (c : Dev nD) : V7 m c main_v16 = wcbW c :=
  (step6a _ _ _ (V6_v7 m c) (V6_v5 m c)).trans (funext (wcb_eq c))
theorem V7_tgt (c : Dev nD) : V7 m c main_v23 = tgtW c :=
  (step6b _ _ _ _ (V6_v7 m c) (V6_v5 m c) (V6_v11 m c)).trans (funext (tgt_eq c))
theorem V7_col (c : Dev nD) : V7 m c main_v25 = colW c :=
  (step6c _ _ (V6_v11 m c)).trans (funext (col_eq c))

end Cert.KernelIdealProof
-- ==== Proof.KernelIdeal.Enter.lean ====
/- What a device brings to the call and takes away from it. -/
module

public import proofs.«01_k».proof.Proof.KernelIdeal.Body
public import proofs.«01_k».proof.Proof.KernelIdeal.Split
public import proofs.«01_k».proof.Proof.KernelIdeal.Tables

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The call's own semaphores -/

abbrev KSem : Type := ((Fin 3 ⊕ Fin 3) ⊕ Unit) ⊕ (Fin 8 ⊕ Fin 8)
def osem : KSem → SemLoc sig
  | .inl (.inl (.inl b)) => .dma (xS b)
  | .inl (.inl (.inr b)) => .dma (wS b)
  | .inl (.inr _) => .dma locS
  | .inr (.inl k) => .dma (sendS k)
  | .inr (.inr p) => .dma (recvS p)
theorem osem_facts : Pipeline.OwnSemFacts spec0 osem := by decide

theorem bigSep_one (Φ : Unit → sProp 𝕄) : bigSep Finset.univ Φ = Φ () := bigSep_singleton
theorem ownSems_eq (c : Dev nD) : (Pipeline.ownSems0 osem c : sProp 𝕄) =
    iprop((((semVal ((c : Thread nD τ), SemLoc.dma (xS 0)) 0 ∗ semVal ((c : Thread nD τ), SemLoc.dma (xS 1)) 0 ∗ semVal ((c : Thread nD τ), SemLoc.dma (xS 2)) 0)
      ∗ (semVal ((c : Thread nD τ), SemLoc.dma (wS 0)) 0 ∗ semVal ((c : Thread nD τ), SemLoc.dma (wS 1)) 0 ∗ semVal ((c : Thread nD τ), SemLoc.dma (wS 2)) 0))
      ∗ semVal ((c : Thread nD τ), SemLoc.dma locS) 0)
      ∗ (bigSep Finset.univ fun k : Fin 8 => semVal (sendCell c k) 0) ∗ bigSep Finset.univ fun p : Dev nD => semVal (recvCell c p) 0) := by
  unfold Pipeline.ownSems0
  rw [bigSep_univ_sum, bigSep_univ_sum, bigSep_univ_sum, bigSep_univ_sum, bigSep_one, bigSep_three, bigSep_three]
  rfl

theorem pair_all {T : Type} [Fintype T] {Φ Ψ : T → sProp 𝕄} :
    iprop(bigSep Finset.univ Φ ∗ bigSep Finset.univ Ψ) ⊢ bigSep Finset.univ (fun c => iprop(Φ c ∗ Ψ c)) :=
  Entails.of_eq (bigSep_sep' _ _ _).symm
theorem unpair_all {T : Type} [Fintype T] {Φ Ψ : T → sProp 𝕄} :
    bigSep Finset.univ (fun c => iprop(Φ c ∗ Ψ c)) ⊢ iprop(bigSep Finset.univ Φ ∗ bigSep Finset.univ Ψ) :=
  Entails.of_eq (bigSep_sep' _ _ _)

/-! ## Dormant cells opened -/

theorem open_all {T : Type} [Fintype T] [DecidableEq T] (κ : GSem nD τ sig → ℕ) (g : T → GSem nD τ sig)
    (hg : ∀ t, g t ∈ (barCells ∪ scCells : Finset (GSem nD τ sig))) :
    iprop(recs m κ ∗ (bigSep Finset.univ fun t => openTok ER (g t)) ∗ bigSep Finset.univ fun t => semVal (g t) 0)
      ⊢ (iprop(|={Set.univ}=> ((bigSep Finset.univ fun t => atPos ER (g t) 0 ∅ 0) ∗ bigSep Finset.univ fun t => reached ER (g t) 0)) : sProp 𝕄) := by
  have h : iprop(recs m κ ∗ bigSep Finset.univ fun t => iprop(openTok ER (g t) ∗ semVal (g t) 0))
      ⊢ (iprop(|={Set.univ}=> bigSep Finset.univ fun t => iprop(atPos ER (g t) 0 ∅ 0 ∗ reached ER (g t) 0)) : sProp 𝕄) := by
    refine (bigSep_with_persistent (R := recs m κ) (Φ := fun t => iprop(openTok ER (g t) ∗ semVal (g t) 0))
      (Ψ := fun t => iprop(|={Set.univ}=> (atPos ER (g t) 0 ∅ 0 ∗ reached ER (g t) 0))) fun t _ => ?_).trans (bigSep_fupd _ _)
    iintro ⟨HR, Ho, Hv⟩
    iapply (Rounds.cell_open ER (Rd m) (κ := κ (g t)) (Set.mem_univ _))
    isplitl [HR]; · iapply (recs_at m κ (hg t)); iexact HR
    isplitl [Ho] <;> iassumption
  iintro ⟨HR, Ho, Hv⟩
  imod h $$ [HR Ho Hv] with H
  · isplitl [HR]; · iexact HR
    iapply pair_all
    isplitl [Ho] <;> iassumption
  imodintro
  iapply unpair_all
  iexact H

/-! ## Before the call -/

def dueOf (c p : Dev nD) : sProp 𝕄 := if p ≠ c then cred (tallyAt (recvCell c p) () N) else iprop(emp)
/-- What a device holds of the protocol before the call. -/
def before (c : Dev nD) : sProp 𝕄 :=
  iprop((∃ κ, recs m κ) ∗ cred (tallyAt (barCell c) () 8) ∗ (bigSep Finset.univ (dueOf (F := F) c)) ∗ atPos ER (barCell c) 0 ∅ 0
    ∗ (bigSep Finset.univ fun p : Dev nD => dutyTok ER (barCell p) 0 c)
    ∗ (bigSep Finset.univ fun k : Fin 8 => dutyTok ER (recvCell (tgt c k) c) 0 c)
    ∗ (bigSep Finset.univ fun k : Fin 8 => dutyTok ER (sendCell c k) 0 c)
    ∗ (bigSep Finset.univ fun k : Fin 8 => openTok ER (sendCell c k))
    ∗ (bigSep Finset.univ fun p : Dev nD => openTok ER (recvCell c p)))

/-- The read shares of the two operands, by slot. -/
def arg0s (c : Dev nD) : sProp 𝕄 := iprop(xPts m c (sh 0) ∗ xPts m c (sh 1) ∗ xPts m c (sh 2))
def arg1s (c : Dev nD) : sProp 𝕄 := iprop(wPts m c (sh 0) ∗ wPts m c (sh 1) ∗ wPts m c (sh 2))

theorem share_three {ℓ : Loc nD τ sig} (f : Buf (Elt F) ℓ) :
    (ℓ ↦{fullShare} f : sProp 𝕄) ⊣⊢ iprop((ℓ ↦{sh 0} f) ∗ (ℓ ↦{sh 1} f) ∗ (ℓ ↦{sh 2} f)) := by
  have h1 := pointsTo_share (Ix := Unit) (Name := ℕ) (U := UU) (Lvl := ℕ) (ℓ := ℓ) (I := Finset.univ) (f := f) (PosShare.mem_left_op_right fullShare)
  have h2 := pointsTo_share (Ix := Unit) (Name := ℕ) (U := UU) (Lvl := ℕ) (ℓ := ℓ) (I := Finset.univ) (f := f) (PosShare.mem_left_op_right (fullShare : PosShare TreeShare).right)
  exact ⟨h1.1.trans (sep_mono .rfl h2.1), (sep_mono .rfl h2.2).trans h1.2⟩

/-- What the call's own state takes in. -/
def enter (c : Dev nD) : sProp 𝕄 :=
  iprop(world m ∗ (bigSep Finset.univ fun p => sigRes c p) ∗ cred (tallyAt (barCell c) () 8) ∗ atPos ER (barCell c) 0 ∅ 0
    ∗ ((semVal ((c : Thread nD τ), SemLoc.dma (xS 0)) 0 ∗ semVal ((c : Thread nD τ), SemLoc.dma (xS 1)) 0 ∗ semVal ((c : Thread nD τ), SemLoc.dma (xS 2)) 0)
      ∗ (semVal ((c : Thread nD τ), SemLoc.dma (wS 0)) 0 ∗ semVal ((c : Thread nD τ), SemLoc.dma (wS 1)) 0 ∗ semVal ((c : Thread nD τ), SemLoc.dma (wS 2)) 0))
    ∗ arg0s m c ∗ arg1s m c
    ∗ (sendTok c 0 ∗ sendTok c 1 ∗ sendTok c 2 ∗ sendTok c 3 ∗ sendTok c 5 ∗ sendTok c 6 ∗ sendTok c 7)
    ∗ (bigSep Finset.univ fun k : Fin 8 => atPos ER (sendCell c k) 0 ∅ 0) ∗ bigSep Finset.univ (recvRes (F := F) c)
    ∗ semVal ((c : Thread nD τ), SemLoc.dma locS) 0)

theorem toks_eight (c : Dev nD) :
    iprop((bigSep Finset.univ fun k : Fin 8 => dutyTok ER (recvCell (tgt c k) c) 0 c) ∗ (bigSep Finset.univ fun k : Fin 8 => reached ER (sendCell c k) 0)
      ∗ bigSep Finset.univ fun k : Fin 8 => dutyTok ER (sendCell c k) 0 c)
    ⊢ (iprop(sendTok c 0 ∗ sendTok c 1 ∗ sendTok c 2 ∗ sendTok c 3 ∗ sendTok c 5 ∗ sendTok c 6 ∗ sendTok c 7) : sProp 𝕄) := by
  iintro ⟨H1, H2, H3⟩
  ihave H := (pair_all (T := Fin 8) (Φ := fun k => (reached ER (sendCell c k) 0 : sProp 𝕄))) $$ [H2 H3]
  · isplitl [H2]
    · iexact H2
    iexact H3
  ihave H := (pair_all (T := Fin 8) (Φ := fun k => (dutyTok ER (recvCell (tgt c k) c) 0 c : sProp 𝕄))) $$ [H1 H]
  · isplitl [H1]
    · iexact H1
    iexact H
  ihave H := (show (bigSep Finset.univ fun k : Fin 8 => iprop(dutyTok ER (recvCell (tgt c k) c) 0 c ∗ reached ER (sendCell c k) 0 ∗ dutyTok ER (sendCell c k) 0 c))
    ⊢ iprop(sendTok c 0 ∗ sendTok c 1 ∗ sendTok c 2 ∗ sendTok c 3 ∗ sendTok c 4 ∗ sendTok c 5 ∗ sendTok c 6 ∗ sendTok (F := F) c 7) from Entails.of_eq (bigSep_eight (F := F) (sendTok c))) $$ H
  icases H with ⟨H0, H1, H2, H3, -, H5, H6, H7⟩
  isplitl [H0]; · iexact H0
  isplitl [H1]; · iexact H1
  isplitl [H2]; · iexact H2
  isplitl [H3]; · iexact H3
  isplitl [H5]; · iexact H5
  isplitl [H6] <;> iassumption

theorem any_row (c p : Dev nD) (f : (main_v26 : Ref sig .tc).ty.Contents (Elt F)) :
    (rowPts c p f : sProp 𝕄) ⊢ iprop(∃ f, rowPts (F := F) c p f) := by
  iintro H
  iexists f
  iexact H
theorem rows_any (c : Dev nD) (f : (main_v26 : Ref sig .tc).ty.Contents (Elt F)) :
    ((c : Thread nD τ).loc main_v26 ↦{fullShare} f : sProp 𝕄) ⊢ bigSep Finset.univ fun p => iprop(∃ f, rowPts (F := F) c p f) := by
  rw [cut_rows c f]
  exact bigSep_mono fun p _ => any_row c p f

theorem sigs_in (c : Dev nD) :
    iprop((bigSep Finset.univ fun p : Dev nD => dutyTok ER (barCell p) 0 c) ∗ (bigSep Finset.univ fun p => iprop(∃ f, rowPts (F := F) c p f))
      ∗ bigSep Finset.univ fun p : Dev nD => reached ER (recvCell c p) 0) ⊢ (bigSep Finset.univ fun p => sigRes c p : sProp 𝕄) := by
  unfold sigRes
  rw [bigSep_sep', bigSep_sep']

theorem recvs_in (c : Dev nD) :
    iprop((bigSep Finset.univ (dueOf (F := F) c)) ∗ bigSep Finset.univ fun p : Dev nD => atPos ER (recvCell c p) 0 ∅ 0)
      ⊢ (bigSep Finset.univ (recvRes (F := F) c) : sProp 𝕄) := by
  exact pair_all

theorem enter_of (c : Dev nD) (f : (main_v26 : Ref sig .tc).ty.Contents (Elt F)) :
    iprop(before m c ∗ levAts L lv ∗ ((c : Thread nD τ).loc main_arg0 ↦{fullShare} xv m c) ∗ ((c : Thread nD τ).loc main_arg1 ↦{fullShare} wv m c)
      ∗ ((c : Thread nD τ).loc main_v26 ↦{fullShare} f) ∗ Pipeline.ownSems0 osem c) ⊢ (iprop(|={Set.univ}=> enter m c) : sProp 𝕄) := by
  rw [ownSems_eq]
  unfold before
  iintro ⟨⟨⟨%κ, #HR⟩, Hcb, Hdue, Hat, Htb, Htr, Hts, Hos, Hor⟩, #HL, Hx, Hw, Ho, ⟨⟨HsX, HsW⟩, HsL⟩, HsS, HsR⟩
  imod (open_all m κ (fun k : Fin 8 => sendCell c k) (send_mem c)) $$ [HR Hos HsS] with ⟨HaS, HrS⟩
  · isplitr; · iexact HR
    isplitl [Hos]
    · iexact Hos
    iexact HsS
  imod (open_all m κ (fun p : Dev nD => recvCell c p) (recv_mem c)) $$ [HR Hor HsR] with ⟨HaR, HrR⟩
  · isplitr; · iexact HR
    isplitl [Hor]
    · iexact Hor
    iexact HsR
  imodintro
  unfold enter
  isplitr
  · unfold world
    isplitr; · iexists κ; iexact HR
    iexact HL
  isplitl [Htb Ho HrR]
  · iapply (sigs_in (F := F) c)
    isplitl [Htb]; · iexact Htb
    isplitl [Ho]; · iapply (rows_any (F := F) c f); iexact Ho
    iexact HrR
  isplitl [Hcb]; · iexact Hcb
  isplitl [Hat]; · iexact Hat
  isplitl [HsX HsW]
  · isplitl [HsX] <;> iassumption
  isplitl [Hx]
  · unfold arg0s xPts
    iapply (share_three (F := F) _).1
    iexact Hx
  isplitl [Hw]
  · unfold arg1s wPts
    iapply (share_three (F := F) _).1
    iexact Hw
  isplitl [Htr HrS Hts]
  · iapply (toks_eight (F := F) c)
    isplitl [Htr]; · iexact Htr
    isplitl [HrS] <;> iassumption
  isplitl [HaS]; · iexact HaS
  isplitl [Hdue HaR]
  · iapply (recvs_in (F := F) c)
    isplitl [Hdue] <;> iassumption
  iexact HsL

/-! ## Into the body's first state and out of its last -/

theorem rest_eq (c : Dev nD) : (Pipeline.scopedRest spec0 c : sProp 𝕄)
    = iprop((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f)) := scopedRest0_eq c

theorem start_of (c : Dev nD) : iprop(enter m c ∗ tables c ∗ Pipeline.scopedRest spec0 c) ⊢ (start m c : sProp 𝕄) := by
  rw [rest_eq]
  unfold enter start
  iintro ⟨⟨HW, Hs, Hcb, Hat, ⟨⟨HX0, HX1, HX2⟩, HW0, HW1, HW2⟩, Hx, Hw, Ht, HaS, Hr, HsL⟩, Htab, Ha, Hxs, Hws⟩
  ihave Ha := (cut_acc (F := F) c) $$ Ha
  ihave Hxs := (cut_xs (F := F) c) $$ Hxs
  ihave Hws := (cut_ws (F := F) c) $$ Hws
  unfold arg0s arg1s
  icases Hx with ⟨Hx0, Hx1, Hx2⟩
  icases Hw with ⟨Hw0, Hw1, Hw2⟩
  icases Hxs with ⟨Hxs0, Hxs1, Hxs2⟩
  icases Hws with ⟨Hws0, Hws1, Hws2⟩
  isplitl [HW]; · iexact HW
  isplitl [Hs]; · iexact Hs
  isplitl [Hcb]; · iexact Hcb
  isplitl [Hat]; · iexact Hat
  isplitl [HX0 HX1 HX2 HW0 HW1 HW2 Hx0 Hx1 Hx2 Hw0 Hw1 Hw2 Hxs0 Hxs1 Hxs2 Hws0 Hws1 Hws2]
  · unfold free
    rw [show slotN 0 = (0 : Fin 3) from rfl, show slotN 1 = (1 : Fin 3) from rfl, show slotN 2 = (2 : Fin 3) from rfl]
    unfold freeX freeW
    isplitl [HX0 HW0 Hx0 Hw0 Hxs0 Hws0]
    · isplitl [HX0 Hx0 Hxs0]
      · isplitl [HX0]; · iexact HX0
        isplitl [Hxs0] <;> iassumption
      isplitl [HW0]; · iexact HW0
      isplitl [Hws0] <;> iassumption
    isplitl [HX1 HW1 Hx1 Hw1 Hxs1 Hws1]
    · isplitl [HX1 Hx1 Hxs1]
      · isplitl [HX1]; · iexact HX1
        isplitl [Hxs1] <;> iassumption
      isplitl [HW1]; · iexact HW1
      isplitl [Hws1] <;> iassumption
    isplitl [HX2 Hx2 Hxs2]
    · isplitl [HX2]; · iexact HX2
      isplitl [Hxs2] <;> iassumption
    isplitl [HW2]; · iexact HW2
    isplitl [Hws2] <;> iassumption
  isplitl [Ha]; · iexact Ha
  isplitl [Ht]; · iexact Ht
  isplitl [HaS]; · iexact HaS
  isplitl [Hr]; · iexact Hr
  isplitl [HsL] <;> iassumption

/-- What the call's own state gives back. -/
def leave (c : Dev nD) : sProp 𝕄 :=
  iprop(arg0s m c ∗ arg1s m c ∗ (bigSep Finset.univ fun p => rowPts c p (outF m c)) ∗ semVal (barCell c) 0)

theorem leave_of (c : Dev nD) : (fin m c : sProp 𝕄) ⊢ iprop(leave m c ∗ Pipeline.ownSems0 osem c ∗ Pipeline.scopedRest spec0 c) := by
  rw [rest_eq, ownSems_eq]
  unfold fin leave free
  rw [show slotN 0 = (0 : Fin 3) from rfl, show slotN 1 = (1 : Fin 3) from rfl, show slotN 2 = (2 : Fin 3) from rfl]
  unfold freeX freeW
  iintro ⟨⟨⟨⟨HX0, Hxs0, Hx0⟩, HW0, Hws0, Hw0⟩, ⟨⟨HX1, Hxs1, Hx1⟩, HW1, Hws1, Hw1⟩, ⟨HX2, Hxs2, Hx2⟩, HW2, Hws2, Hw2⟩, Ha, Hrow, HsS, HsR, HsL, Hb, -⟩
  isplitl [Hx0 Hx1 Hx2 Hw0 Hw1 Hw2 Hrow Hb]
  · unfold arg0s arg1s
    isplitl [Hx0 Hx1 Hx2]
    · isplitl [Hx0]; · iexact Hx0
      isplitl [Hx1] <;> iassumption
    isplitl [Hw0 Hw1 Hw2]
    · isplitl [Hw0]; · iexact Hw0
      isplitl [Hw1] <;> iassumption
    isplitl [Hrow] <;> iassumption
  isplitl [HX0 HX1 HX2 HW0 HW1 HW2 HsL HsS HsR]
  · isplitl [HX0 HX1 HX2 HW0 HW1 HW2 HsL]
    · isplitr [HsL]
      · isplitl [HX0 HX1 HX2]
        · isplitl [HX0]; · iexact HX0
          isplitl [HX1] <;> iassumption
        isplitl [HW0]; · iexact HW0
        isplitl [HW1] <;> iassumption
      iexact HsL
    isplitl [HsS] <;> iassumption
  isplitl [Ha]
  · iapply (glue_acc (F := F) c); iexact Ha
  isplitl [Hxs0 Hxs1 Hxs2]
  · iapply (glue_xs (F := F) c)
    isplitl [Hxs0]; · iexact Hxs0
    isplitl [Hxs1] <;> iassumption
  iapply (glue_ws (F := F) c)
  isplitl [Hws0]; · iexact Hws0
  isplitl [Hws1] <;> iassumption

/-- What a device ends with. -/
def ends (c : Dev nD) : sProp 𝕄 :=
  iprop(((c : Thread nD τ).loc main_arg0 ↦{fullShare} xv m c) ∗ ((c : Thread nD τ).loc main_arg1 ↦{fullShare} wv m c)
    ∗ ((c : Thread nD τ).loc main_v26 ↦{fullShare} outF m c) ∗ semVal (barCell c) 0)

theorem ends_of (c : Dev nD) : (leave m c : sProp 𝕄) ⊢ ends m c := by
  unfold leave ends arg0s arg1s xPts wPts
  rw [cut_rows c (outF m c)]
  iintro ⟨Hx, Hw, Ho, Hb⟩
  isplitl [Hx]; · iapply (share_three (F := F) _).2; iexact Hx
  isplitl [Hw]; · iapply (share_three (F := F) _).2; iexact Hw
  isplitl [Ho] <;> iassumption

end Cert.KernelIdealProof
-- ==== Proof.KernelIdeal.Region.lean ====
/- The call as a region of the host's program. -/
module

public import proofs.«01_k».proof.Proof.KernelIdeal.Enter

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The proof data of the call -/

/-- The tables the call reads on a device. -/
def tbl (c : Dev nD) : (pre0).Contents (Elt F)
  | 0 => tgtW c
  | 1 => colW c
  | 2 => wcbW c
def adm (c : Dev nD) : (p : Fin 1) → (pcfgs (F := F) p).Adm := fun _ => ⟨tbl c, trivial⟩

def dat (c : Dev nD) (a : (pcfg0 (F := F)).Adm) : Dat τ (Elt F) Unit ℕ UU ℕ (cfg0 a) c where
  A w := w.elim0
  after w := w.elim0
  Φ t := state m c t.val
  q w := w.elim0
  owed t := owedN c t.val
def pdats : (p : Fin 1) → (c : Dev nD) → Dat τ (Elt F) Unit ℕ UU ℕ (Pipeline.pinD (pcfgs (F := F)) adm c p) c :=
  fun _ c => dat m c (adm c 0)

theorem sum_none (Φ : Fin 0 → sProp 𝕄) : bigSep Finset.univ Φ = (BI.emp : sProp 𝕄) := bigSep_univ_eq_bigSepL [] (by decide) (by decide) Φ
theorem arrays_none (c : Dev nD) (Fa) : ((pdats (F := F) m 0 c).arrays Fa : sProp 𝕄) = BI.emp := sum_none _
theorem tables_held (c : Dev nD) : (Pipeline.prefHeld (Ix := Unit) (Name := ℕ) (U := UU) (Lvl := ℕ) (Val := Elt F) (pcfgs (F := F) 0).pre c
    (fun _ => fullShare) (adm (F := F) c 0).1 : sProp 𝕄) = tables c := by
  unfold Pipeline.prefHeld tables tgtPts colPts wcbPts
  exact bigSep_three (F := F) _

theorem owes_in {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) :
    (ow c O : sProp 𝕄) ⊢ (d.owesAt () t : sProp 𝕄) := by
  unfold Dat.owesAt Pipeline.owesWithin Dat.bound ow; rw [h0, hr]
  iintro ⟨%W, HO⟩; iexists W; isplitr; · ipureintro; exact fun _ _ => Or.inl trivial
  iexact HO
theorem owes_out {cfg : Pipeline.Cfg sig Λ₀} {c : Dev nD} (d : Dat τ (Elt F) Unit ℕ UU ℕ cfg c) (t : Fin (cfg.N + 1))
    (O : CellTallies nD τ sig Unit) (h0 : d.owed t = O) :
    (d.owesAt () t : sProp 𝕄) ⊢ ow c O := by
  unfold Dat.owesAt Pipeline.owesWithin ow; rw [h0]
  iintro ⟨%W, -, HO⟩; iexists W; iexact HO

/-- The body at every point. -/
theorem body_at (c : Dev nD) : BodyObligation (pdats (F := F) m 0 c) defs₀ 𝒱₀ () Set.univ := fun t => by
  rw [sum_none, sum_none]
  rw [show (pdats m 0 c).Φ t.castSucc = state m c t.val from rfl, show (pdats m 0 c).Φ t.succ = state m c (t.val + 1) from rfl]
  have h1 : iprop(state m c t.val ∗ (pdats m 0 c).owesAt () t.castSucc ∗ BI.emp) ⊢ (iprop(state m c t.val ∗ ow c (owedN c t.val)) : sProp 𝕄) := by
    iintro ⟨Hs, HO, -⟩
    isplitl [Hs]; · iexact Hs
    iapply (owes_out (pdats m 0 c) t.castSucc (owedN c t.val) rfl); iexact HO
  have h2 : iprop(state m c (t.val + 1) ∗ ow c (owedN c (t.val + 1))) ⊢ (iprop(state m c (t.val + 1) ∗ (pdats m 0 c).owesAt () t.succ ∗ BI.emp) : sProp 𝕄) := by
    iintro ⟨Hs, HO⟩
    isplitl [Hs]; · iexact Hs
    isplitl [HO]; · iapply (owes_in (pdats m 0 c) t.succ (owedN c (t.val + 1)) rfl rfl); iexact HO
    iempintro
  exact h1.trans ((body_run m c t).trans (wp_mono _ _ _ fun _ => h2))

/-! ## The buffers the call uses -/

theorem V7_keep (c : Dev nD) (r : Ref sig .tc) (h : r ∉ hostOps0_W ++ hostOps0_1_W ++ hostOps0_2_W ++ hostOps0_3_W ++ hostOps0_4_W ++ hostOps0_5_W ++ hostOps0_6_W) :
    V7 m c r = m ((c : Thread nD τ).loc r) := by
  simp only [List.mem_append, not_or] at h
  obtain ⟨⟨⟨⟨⟨⟨h0, h1⟩, h2⟩, h3⟩, h4⟩, h5⟩, h6⟩ := h
  rw [V7_of m c r h6, V6_of m c r h5, V5_of m c r h4, V4_of m c r h3, V3_of m c r h2, V2_of m c r h1, V1_of m c r h0]
theorem V7_arg0 (c : Dev nD) : V7 m c main_arg0 = xv m c := V7_keep m c main_arg0 (by decide)
theorem V7_arg1 (c : Dev nD) : V7 m c main_arg1 = wv m c := V7_keep m c main_arg1 (by decide)

abbrev used : List (DevRef τ sig) := [Proc.devRef .tc main_arg0, Proc.devRef .tc main_arg1, Proc.devRef .tc main_v26,
  Proc.devRef .tc main_v23, Proc.devRef .tc main_v25, Proc.devRef .tc main_v16]
theorem used_sub : (used.toFinset : Finset (DevRef τ sig)) ⊆ Pipeline.ucRefs τ sig := by
  intro b hb
  simp only [List.mem_toFinset, List.mem_cons, List.mem_nil_iff, or_false] at hb
  rcases hb with rfl | rfl | rfl | rfl | rfl | rfl <;>
    exact Finset.mem_filter.mpr ⟨StableHlo.devRef_mem_tcRefs _, by decide⟩
theorem used_of (c : Dev nD) (V : Valuation τ sig (Elt F)) :
    (StableHlo.held (c : Thread nD τ) (Pipeline.ucRefs τ sig) V : sProp 𝕄)
      ⊢ iprop(((c : Thread nD τ).loc main_arg0 ↦{fullShare} V main_arg0) ∗ ((c : Thread nD τ).loc main_arg1 ↦{fullShare} V main_arg1)
        ∗ ((c : Thread nD τ).loc main_v26 ↦{fullShare} V main_v26) ∗ ((c : Thread nD τ).loc main_v23 ↦{fullShare} V main_v23)
        ∗ ((c : Thread nD τ).loc main_v25 ↦{fullShare} V main_v25) ∗ ((c : Thread nD τ).loc main_v16 ↦{fullShare} V main_v16)) := by
  unfold StableHlo.held
  refine (bigSep_subset used_sub).trans ?_
  rw [bigSep_eq_bigSepL_of_eq used rfl (by decide)]
  exact BI.Entails.refl _

/-! ## The region -/

local notation "ℝ𝕊" => Pipeline.PerCore.RegionSeg (pcfgs (F := F)) adm (pdats m) () defs₀ 𝒱₀ L lv

set_option backward.isDefEq.respectTransparency.types false in
def reg0 : ℝ𝕊 0 where
  win := winFacts0.to₀
  block_pos w := w.elim0
  stage_whole w := w.elim0
  K := KSem
  osem := osem
  ho := osem_facts
  hbody c := (body_at m c).loose
  hwaits c := Pipeline.PerCore.cellsWaits_intro _ (pdats m) () 0 c fun w => w.elim0
  pre c := iprop(StableHlo.held (c : Thread nD τ) (Pipeline.ucRefs τ sig) (V7 m c) ∗ (before m c ∗ ow c (O₀ c)))
  post c := iprop(ends m c ∗ ow c 0)
  X c := enter m c
  Y c := leave m c
  Z c := iprop(emp)
  hentry c := by
    rw [arrays_none, tables_held]
    iintro ⟨⟨Hh, Hb, HO⟩, Hs, HL⟩
    ihave Hh := (used_of c (V7 m c)) $$ Hh
    icases Hh with ⟨Hx, Hw, Ho, Ht, Hc, Hb'⟩
    imod (enter_of m c (V7 m c main_v26)) $$ [Hb HL Hx Hw Ho Hs] with HE
    · isplitl [Hb]; · iexact Hb
      isplitl [HL]; · iexact HL
      isplitl [Hx]; · iapply (Entails.of_eq (congrArg (fun f => ((c : Thread nD τ).loc main_arg0 ↦{fullShare} f : sProp 𝕄)) (V7_arg0 m c))); iexact Hx
      isplitl [Hw]; · iapply (Entails.of_eq (congrArg (fun f => ((c : Thread nD τ).loc main_arg1 ↦{fullShare} f : sProp 𝕄)) (V7_arg1 m c))); iexact Hw
      isplitl [Ho] <;> iassumption
    imodintro
    isplitr; · iempintro
    isplitl [Ht Hc Hb']
    · unfold tables tgtPts colPts wcbPts
      isplitl [Ht]; · iapply (Entails.of_eq (congrArg (fun f => ((c : Thread nD τ).loc main_v23 ↦{fullShare} f : sProp 𝕄)) (V7_tgt m c))); iexact Ht
      isplitl [Hc]; · iapply (Entails.of_eq (congrArg (fun f => ((c : Thread nD τ).loc main_v25 ↦{fullShare} f : sProp 𝕄)) (V7_col m c))); iexact Hc
      iapply (Entails.of_eq (congrArg (fun f => ((c : Thread nD τ).loc main_v16 ↦{fullShare} f : sProp 𝕄)) (V7_wcb m c))); iexact Hb'
    isplitl [HO]; · iapply (owes_in (pdats m 0 c) 0 (O₀ c) rfl rfl); iexact HO
    isplitl [HE]; · iexact HE
    iempintro
  hin c := by
    rw [tables_held, show (pdats m 0 c).Φ 0 = start m c from rfl]
    exact start_of m c
  hout c := by
    rw [show (pdats m 0 c).Φ (Fin.last _) = fin m c from rfl]
    exact leave_of m c
  hexit c := by
    rw [arrays_none]
    iintro ⟨-, HO, HY, -⟩
    imodintro
    isplitl [HY]; · iapply (ends_of m c); iexact HY
    iapply (owes_out (pdats m 0 c) (Fin.last (cfg0 (adm (F := F) c 0)).N) 0 rfl); iexact HO

end Cert.KernelIdealProof
-- ==== Proof.KernelIdeal.Launch.lean ====
/- The launch: every meeting cell funded, its tokens dealt, and the run of the whole program. -/
module

public import proofs.«01_k».proof.Proof.KernelIdeal.Region

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat HostSeg)

variable (m : (ℓ : Loc nD τ sig) → Buf (Elt F) ℓ) (ρ : Dev nD → PrngReg)

/-! ## Cells and tokens -/

theorem bar_ne_sc : ∀ k : Fin 8, SemLoc.reg barS ≠ (SemLoc.dma (sendS k) : SemLoc sig) ∧ SemLoc.reg barS ≠ (SemLoc.dma (recvS k) : SemLoc sig) := by decide
theorem send_ne_recv : ∀ k p : Fin 8, (SemLoc.dma (sendS k) : SemLoc sig) ≠ SemLoc.dma (recvS p) := by decide

theorem send_recv_apart : Disjoint (sendCells : Finset (GSem nD τ sig)) recvCells := by
  rw [Finset.disjoint_left]
  rintro g h₁ h₂
  obtain ⟨x, -, rfl⟩ := Finset.mem_map.mp h₁
  obtain ⟨y, -, h⟩ := Finset.mem_map.mp h₂
  exact send_ne_recv x.2 y.2 (congrArg Prod.snd h).symm
theorem bar_sc_apart : Disjoint (barCells : Finset (GSem nD τ sig)) scCells := by
  rw [Finset.disjoint_left]
  rintro g h₁ h₂
  obtain ⟨c, -, rfl⟩ := Finset.mem_map.mp h₁
  rcases Finset.mem_union.mp h₂ with h₂ | h₂
  · obtain ⟨y, -, h⟩ := Finset.mem_map.mp h₂
    exact (bar_ne_sc y.2).1 (congrArg Prod.snd h).symm
  · obtain ⟨y, -, h⟩ := Finset.mem_map.mp h₂
    exact (bar_ne_sc y.2).2 (congrArg Prod.snd h).symm

/-- The three families of tokens, each by the device that holds it. -/
def barTok : Dev nD × Dev nD ↪ GSem nD τ sig × ℕ × Dev nD := ⟨fun x => (barCell x.2, 0, x.1), fun _ _ h =>
  Prod.ext (congrArg (fun t : GSem nD τ sig × ℕ × Dev nD => t.2.2) h) (congrArg (fun t : GSem nD τ sig × ℕ × Dev nD => t.1.1.1) h)⟩
def sendTk : Dev nD × Fin 8 ↪ GSem nD τ sig × ℕ × Dev nD := ⟨fun x => (sendCell x.1 x.2, 0, x.1), fun _ _ h =>
  Prod.ext (congrArg (fun t : GSem nD τ sig × ℕ × Dev nD => t.2.2) h)
    (sendS_inj (dma_inj (congrArg (fun t : GSem nD τ sig × ℕ × Dev nD => t.1.2) h)))⟩
def recvTk : Dev nD × Dev nD ↪ GSem nD τ sig × ℕ × Dev nD := ⟨fun x => (recvCell x.2 x.1, 0, x.1), fun _ _ h =>
  Prod.ext (congrArg (fun t : GSem nD τ sig × ℕ × Dev nD => t.2.2) h) (congrArg (fun t : GSem nD τ sig × ℕ × Dev nD => t.1.1.1) h)⟩
abbrev barTs : Finset (GSem nD τ sig × ℕ × Dev nD) := Finset.univ.map barTok
abbrev sendTs : Finset (GSem nD τ sig × ℕ × Dev nD) := Finset.univ.map sendTk
abbrev recvTs : Finset (GSem nD τ sig × ℕ × Dev nD) := Finset.univ.map recvTk
abbrev allTs : Finset (GSem nD τ sig × ℕ × Dev nD) := barTs ∪ (sendTs ∪ recvTs)

theorem sendTs_recvTs : Disjoint sendTs recvTs := by
  rw [Finset.disjoint_left]
  rintro g h₁ h₂
  obtain ⟨x, -, rfl⟩ := Finset.mem_map.mp h₁
  obtain ⟨y, -, h⟩ := Finset.mem_map.mp h₂
  exact send_ne_recv x.2 y.1 (congrArg (fun t : GSem nD τ sig × ℕ × Dev nD => t.1.2) h).symm
theorem barTs_rest : Disjoint barTs (sendTs ∪ recvTs) := by
  rw [Finset.disjoint_left]
  rintro g h₁ h₂
  obtain ⟨x, -, rfl⟩ := Finset.mem_map.mp h₁
  rcases Finset.mem_union.mp h₂ with h₂ | h₂
  · obtain ⟨y, -, h⟩ := Finset.mem_map.mp h₂
    exact (bar_ne_sc y.2).1 (congrArg (fun t : GSem nD τ sig × ℕ × Dev nD => t.1.2) h).symm
  · obtain ⟨y, -, h⟩ := Finset.mem_map.mp h₂
    exact (bar_ne_sc y.1).2 (congrArg (fun t : GSem nD τ sig × ℕ × Dev nD => t.1.2) h).symm

theorem toks_dealt : (bigSep allTs (fun x => (dutyTok ER x.1 x.2.1 x.2.2 : sProp 𝕄)))
    = iprop((bigSep Finset.univ fun c : Dev nD => bigSep Finset.univ fun p : Dev nD => dutyTok ER (barCell p) 0 c)
      ∗ (bigSep Finset.univ fun c : Dev nD => bigSep Finset.univ fun k : Fin 8 => dutyTok ER (sendCell c k) 0 c)
      ∗ bigSep Finset.univ fun c : Dev nD => bigSep Finset.univ fun p : Dev nD => dutyTok ER (recvCell p c) 0 c) := by
  rw [bigSep_union barTs_rest, bigSep_union sendTs_recvTs, bigSep_map, bigSep_map, bigSep_map, bigSep_univ_prod, bigSep_univ_prod, bigSep_univ_prod]
  rfl
theorem recv_toks (c : Dev nD) : (bigSep Finset.univ fun p : Dev nD => (dutyTok ER (recvCell p c) 0 c : sProp 𝕄))
    = bigSep Finset.univ fun k : Fin 8 => dutyTok ER (recvCell (tgt c k) c) 0 c :=
  bigSep_univ_equiv (tgtEquiv c) _
theorem opens_dealt : (bigSep scCells (fun g => (openTok ER g : sProp 𝕄)))
    = iprop((bigSep Finset.univ fun c : Dev nD => bigSep Finset.univ fun k : Fin 8 => openTok ER (sendCell c k))
      ∗ bigSep Finset.univ fun c : Dev nD => bigSep Finset.univ fun p : Dev nD => openTok ER (recvCell c p)) := by
  rw [bigSep_union send_recv_apart, bigSep_map, bigSep_map, bigSep_univ_prod, bigSep_univ_prod]
  rfl

/-! ## The launch credit -/

theorem sum_at {T : Type} (f : T → CellTallies nD τ sig Unit) (g : GSem nD τ sig) (l : List T) :
    (l.map f).sum g () = (l.map fun k => f k g ()).sum := by
  induction l with
  | nil => rfl
  | cons k l ih => rw [List.map_cons, List.sum_cons, List.map_cons, List.sum_cons, ← ih]; rfl
theorem sum_count {T : Type} (n : ℕ) (P : T → Bool) (l : List T) : (l.map fun k => if P k = true then n else 0).sum = n * l.countP P := by
  induction l with
  | nil => rfl
  | cons k l ih =>
    rw [List.map_cons, List.sum_cons, ih, List.countP_cons]
    by_cases h : P k = true
    · rw [if_pos h, if_pos h]; ring
    · rw [if_neg h, if_neg h]; ring

theorem recv_cell_eq (c p d : Dev nD) (k : Fin 8) : recvCell c p = recvCell (tgt d k) d ↔ (p = d ∧ c = tgt d k) := by
  constructor
  · intro h
    exact ⟨recvS_inj (dma_inj (congrArg Prod.snd h)), congrArg (fun g : GSem nD τ sig => g.1.1) h⟩
  · rintro ⟨rfl, rfl⟩; rfl

theorem one_of_sends : ∀ d p c : Dev nD, p ≠ c → sends.countP (fun k => decide (p = d ∧ c = tgt d k)) = if d = p then 1 else 0 := by
  decide +kernel
theorem one_of_all : ∀ c : Dev nD, (List.finRange 8).countP (fun p => decide (c = p)) = 1 := by decide +kernel

theorem owed_bar (d c : Dev nD) : O₀ d (barCell c) () = 1 := by
  unfold O₀ oweB oweS
  change ((sends.drop 0).map fun k => (tallyAt (recvCell (tgt d k) d) () N : CellTallies nD τ sig Unit)).sum (barCell c) ()
    + (((List.finRange 8).drop 0).map fun p : Fin 8 => (tallyAt (barCell p) () 1 : CellTallies nD τ sig Unit)).sum (barCell c) () = 1
  rw [sum_at, sum_at]
  have h1 : (fun k : Fin 8 => (tallyAt (recvCell (tgt d k) d) () N : CellTallies nD τ sig Unit) (barCell c) ()) = fun _ => 0 := by
    funext k
    rw [tallyAt_apply]
    exact if_neg fun h => (bar_ne_sc d).2 (congrArg Prod.snd h.1)
  have h2 : (fun p : Fin 8 => (tallyAt (barCell p) () 1 : CellTallies nD τ sig Unit) (barCell c) ()) = fun p => if decide (c = p) = true then 1 else 0 := by
    funext p
    rw [tallyAt_apply]
    by_cases h : c = p
    · subst h; rw [if_pos ⟨rfl, rfl⟩, if_pos (decide_eq_true rfl)]
    · rw [if_neg (fun h' => h (congrArg (fun g : GSem nD τ sig => g.1.1) h'.1)), if_neg (by rw [decide_eq_false h]; exact Bool.false_ne_true)]
  rw [h1, h2, sum_count, List.drop_zero, List.drop_zero, one_of_all]
  simp
theorem owed_recv (d c p : Dev nD) (hp : p ≠ c) : O₀ d (recvCell c p) () = if d = p then N else 0 := by
  unfold O₀ oweB oweS
  change ((sends.drop 0).map fun k => (tallyAt (recvCell (tgt d k) d) () N : CellTallies nD τ sig Unit)).sum (recvCell c p) ()
    + (((List.finRange 8).drop 0).map fun p : Fin 8 => (tallyAt (barCell p) () 1 : CellTallies nD τ sig Unit)).sum (recvCell c p) () = _
  rw [sum_at, sum_at]
  have h1 : (fun k : Fin 8 => (tallyAt (recvCell (tgt d k) d) () N : CellTallies nD τ sig Unit) (recvCell c p) ())
      = fun k => if decide (p = d ∧ c = tgt d k) = true then N else 0 := by
    funext k
    rw [tallyAt_apply]
    by_cases h : p = d ∧ c = tgt d k
    · rw [if_pos ⟨(recv_cell_eq c p d k).mpr h, rfl⟩, if_pos (decide_eq_true h)]
    · rw [if_neg (fun h' => h ((recv_cell_eq c p d k).mp h'.1)), if_neg (by rw [decide_eq_false h]; exact Bool.false_ne_true)]
  have h2 : (fun q : Fin 8 => (tallyAt (barCell q) () 1 : CellTallies nD τ sig Unit) (recvCell c p) ()) = fun _ => 0 := by
    funext q
    rw [tallyAt_apply]
    exact if_neg fun h => (bar_ne_sc p).2 (congrArg Prod.snd h.1).symm
  rw [h1, h2, sum_count, List.drop_zero, one_of_sends d p c hp]
  by_cases h : d = p
  · rw [if_pos h, if_pos h]; simp
  · rw [if_neg h, if_neg h]; simp

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c]
  rfl
theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hp,
    Finset.sum_ite_eq' Finset.univ p fun _ => N, if_pos (Finset.mem_univ _)]

def recvLoc : Fin 8 ↪ SemLoc sig := ⟨fun p => .dma (recvS p), fun _ _ h => recvS_inj (dma_inj h)⟩
theorem recvLoc_sub : (Finset.univ.map recvLoc) ⊆ (Finset.univ.erase (SemLoc.reg barS) : Finset (SemLoc sig)) := by
  intro s hs
  obtain ⟨p, -, rfl⟩ := Finset.mem_map.mp hs
  exact Finset.mem_erase.mpr ⟨fun h => (bar_ne_sc p).2 h.symm, Finset.mem_univ _⟩
theorem due_of (c p : Dev nD) :
    (cred (tallyOn ((c : Thread nD τ), SemLoc.dma (recvS p)) (launchCredit (Pipeline.owing O₀) 0 ((c : Thread nD τ), SemLoc.dma (recvS p)))) : sProp 𝕄)
      ⊢ dueOf (F := F) c p := by
  unfold dueOf
  by_cases h : p = c
  · rw [if_neg (not_not_intro h)]
    iintro -
    iempintro
  · rw [if_pos h]
    exact Entails.of_eq (congrArg _ (launch_recv c p h))
theorem creds (c : Dev nD) :
    (Pipeline.launchCred O₀ c : sProp 𝕄) ⊢ iprop(cred (tallyAt (barCell c) () 8) ∗ bigSep Finset.univ (dueOf (F := F) c)) := by
  unfold Pipeline.launchCred
  rw [bigSep_univ_at _ (SemLoc.reg barS), launch_bar]
  refine sep_mono_right ((bigSep_subset recvLoc_sub).trans ?_)
  rw [bigSep_map]
  exact bigSep_mono fun p _ => due_of (F := F) c p

/-! ## The launch element and what is dealt -/

theorem cells_inj : Function.Injective (Pipeline.PerCore.cellOf (nD := nD) (τ := τ) (Pipeline.pinD (pcfgs (F := F)) adm)) :=
  fun k => k.2.2.1.elim0

def u₀ : UU :=
  (initOf (Pipeline.PerCore.cells (Pipeline.pinD (pcfgs (F := F)) adm) cells_inj) (Pipeline.PerCore.launchToks (Pipeline.pinD (pcfgs (F := F)) adm) cells_inj),
    (launchOf barCells scCells allTs, 1))

/-- An assertion held by one device. -/
def onDev (d : Dev nD) (P : sProp 𝕄) (c : Dev nD) : sProp 𝕄 := if c = d then P else iprop(emp)
theorem onDev_all (d : Dev nD) (P : sProp 𝕄) : (bigSep Finset.univ (onDev d P) : sProp 𝕄) = P := by
  have h : (bigSep (Finset.univ.erase d) (onDev d P) : sProp 𝕄) = iprop(emp) :=
    (bigSep_congr (Ψ := fun _ : Dev nD => (iprop(emp) : sProp 𝕄)) fun c hc => if_neg (Finset.ne_of_mem_erase hc)).trans (bigSep_emp_const _)
  rw [bigSep_univ_at _ d, h, show onDev d P d = P from if_pos rfl]
  exact BI.equiv_iff.mp sep_emp
def G : Dev nD → sProp 𝕄 := onDev 0 (BI.own (ER (launchOf barCells scCells allTs)))

/-- What one device takes of the tokens, and what it brings itself. -/
def mine (c : Dev nD) : sProp 𝕄 := iprop(atPos ER (barCell c) 0 ∅ 0
  ∗ (bigSep Finset.univ fun p : Dev nD => dutyTok ER (barCell p) 0 c)
  ∗ (bigSep Finset.univ fun k : Fin 8 => dutyTok ER (recvCell (tgt c k) c) 0 c)
  ∗ (bigSep Finset.univ fun k : Fin 8 => dutyTok ER (sendCell c k) 0 c)
  ∗ (bigSep Finset.univ fun k : Fin 8 => openTok ER (sendCell c k))
  ∗ (bigSep Finset.univ fun p : Dev nD => openTok ER (recvCell c p)))
def bring (c : Dev nD) : sProp 𝕄 := iprop(StableHlo.held (c : Thread nD τ) (Pipeline.ucRefs τ sig) (V0 m c)
  ∗ cred (tallyAt (barCell c) () 8) ∗ (bigSep Finset.univ (dueOf (F := F) c)) ∗ ow c (O₀ c))
/-- What the host segments carry past them. -/
def carry : Fin 2 → Dev nD → sProp 𝕄 := fun _ c => iprop(before m c ∗ ow c (O₀ c))
def first (c : Dev nD) : sProp 𝕄 := iprop(StableHlo.held (c : Thread nD τ) (Pipeline.ucRefs τ sig) (V0 m c) ∗ carry m 0 c)

theorem first_of (κ : GSem nD τ sig → ℕ) (c : Dev nD) : iprop(recs m κ ∗ (mine c ∗ bring m c)) ⊢ first m c := by
  unfold mine bring first carry before
  iintro ⟨#HI, ⟨Ha, Hb, Hr, Hs, Ho, Hq⟩, Hh, Hc, Hd, Hw⟩
  isplitl [Hh]; · iexact Hh
  isplitr [Hw]
  · isplitr; · iexists κ; iexact HI
    isplitl [Hc]; · iexact Hc
    isplitl [Hd]; · iexact Hd
    isplitl [Ha]; · iexact Ha
    isplitl [Hb]; · iexact Hb
    isplitl [Hr]; · iexact Hr
    isplitl [Hs]; · iexact Hs
    isplitl [Ho]; · iexact Ho
    iexact Hq
  · iexact Hw

theorem unscoped_one (c : Dev nD) : (unscopedSems0 c : sProp 𝕄) ⊢ semVal (barCell c) 0 :=
  Entails.of_eq (by
    unfold unscopedSems0
    rw [show (Finset.univ.filter fun s : SemLoc sig => ¬ s.isScoped .tc) = {SemLoc.reg barS} from by decide, bigSep_singleton])

theorem core_of (c : Dev nD) : iprop(unscopedBufs c (fun b => m ((c.tc : Thread nD τ).loc b)) ∗ unscopedSems0 c
      ∗ owes (c : Thread nD τ) (O₀ c) ∅ ∗ Pipeline.launchCred O₀ c ∗ prngReg c (ρ c) ∗ G (F := F) c)
    ⊢ (iprop(bring m c ∗ (semVal (barCell c) 0 ∗ G (F := F) c)) : sProp 𝕄) := by
  rw [show unscopedBufs c (fun b => m ((c.tc : Thread nD τ).loc b)) = StableHlo.held (c : Thread nD τ) (Pipeline.ucRefs τ sig) (V0 m c) from
    Pipeline.unscopedBufs_held c (V0 m c)]
  unfold bring ow
  iintro ⟨Hh, Hus, HO, Hcr, -, HG⟩
  ihave Hc := (creds (F := F) c) $$ Hcr
  icases Hc with ⟨H1, HN⟩
  isplitl [Hh H1 HN HO]
  · isplitl [Hh]; · iexact Hh
    isplitl [H1]; · iexact H1
    isplitl [HN]; · iexact HN
    iexists ∅; iexact HO
  isplitl [Hus]
  · iapply (unscoped_one (F := F) c) $$ Hus
  · iexact HG

theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (first m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hrt : (bigSep Finset.univ fun c : Dev nD => bigSep Finset.univ fun p : Dev nD => (dutyTok ER (recvCell p c) 0 c : sProp 𝕄))
      ⊢ bigSep Finset.univ fun c : Dev nD => bigSep Finset.univ fun k : Fin 8 => (dutyTok ER (recvCell (tgt c k) c) 0 c : sProp 𝕄) :=
    Entails.of_eq (bigSep_congr fun c _ => recv_toks (F := F) c)
  have hcores : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bring m c ∗ (semVal (barCell c) 0 ∗ G (F := F) c)) : sProp 𝕄) := bigSep_mono fun c _ => core_of m ρ c
  iintro ⟨H, -⟩
  ihave H' := hcores $$ H
  ihave H2 := unpair_all $$ H'; icases H2 with ⟨HB, H3⟩
  ihave H4 := unpair_all $$ H3; icases H4 with ⟨Hv, HG⟩
  ihave Hu := (show bigSep Finset.univ (G (F := F)) ⊢ BI.own (ER (launchOf barCells scCells allTs)) from
    Entails.of_eq (onDev_all (F := F) 0 (BI.own (ER (launchOf barCells scCells allTs))))) $$ HG
  imod (Rounds.fund_launch ER (Rd m) bar_sc_apart (fun g _ h => h) allTs) $$ [Hv Hu] with ⟨%κ, -, #Hinv, #Hr, Hat, Hopen, Htok⟩
  · isplitl [Hv]
    · iapply hv $$ Hv
    · iexact Hu
  imodintro
  iapply (bigSep_with_persistent (R := recs m κ) (Φ := fun c => iprop(mine c ∗ bring m c)) fun c _ => first_of m κ c)
  isplitr
  · unfold recs
    isplitr; · iexact Hinv
    iexact Hr
  iapply pair_all
  isplitr [HB]
  · unfold mine
    ihave Ht := (Entails.of_eq (toks_dealt (F := F))) $$ Htok
    icases Ht with ⟨Hb, Hs, Hq⟩
    ihave Hp := (Entails.of_eq (opens_dealt (F := F))) $$ Hopen
    icases Hp with ⟨Hos, Hor⟩
    iapply pair_all; isplitl [Hat]; · iapply hat $$ Hat
    iapply pair_all; isplitl [Hb]; · iexact Hb
    iapply pair_all; isplitl [Hq]; · iapply hrt $$ Hq
    iapply pair_all; isplitl [Hs]; · iexact Hs
    iapply pair_all; isplitl [Hos]; · iexact Hos
    iexact Hor
  · iexact HB

/-! ## The run -/

def chain (c : Dev nD) : List (Pipeline.PerCore.Seg (pcfgs (F := F)) adm (pdats m) () defs₀ 𝒱₀ L lv) :=
  [.host (seg0 m 𝒱₀ L lv (carry m) c), .host (seg1 m 𝒱₀ L lv (carry m)), .host (seg2 m 𝒱₀ L lv (carry m)), .host (seg3 m 𝒱₀ L lv (carry m)),
    .host (seg4 m 𝒱₀ L lv (carry m)), .host (seg5 m 𝒱₀ L lv (carry m)), .host (seg6 m 𝒱₀ L lv (carry m)), .region (reg0 m)]

theorem end_of (c : Dev nD) : (reg0 m).post c ⊢ iprop(ends m c ∗ ∃ W, owes (c.tc : Thread nD τ) (0 : CellTallies nD τ sig Unit) W) :=
  BI.Entails.refl _
theorem unscoped_bar : ∀ sm : SemLoc sig, sm.isScoped .tc = false → sm = .reg barS := by decide

theorem u₀_dealt : (ownU (u₀ (F := F)) : sProp 𝕄) ⊢ |={Set.univ}=>
    iprop(BI.own (EP (initOf (Pipeline.PerCore.cells (Pipeline.pinD (pcfgs (F := F)) adm) cells_inj) (Pipeline.PerCore.launchToks (Pipeline.pinD (pcfgs (F := F)) adm) cells_inj)))
      ∗ bigSep Finset.univ (G (F := F))) := by
  unfold u₀ G
  iintro Hu
  ihave H := (ownU_pair _ _) $$ Hu
  icases H with ⟨HP, HX⟩
  ihave H2 := (own_pair_emb (embR : Emb (UB × Counters) 𝕄) (launchOf barCells scCells allTs) 1) $$ HX
  icases H2 with ⟨HX, -⟩
  imodintro
  isplitl [HP]; · iexact HP
  rw [onDev_all]; iexact HX

set_option backward.isDefEq.respectTransparency.types false in
/-- From any memory with zero counters every fair execution ends with the arguments unchanged, each device's result holding
its column block, and every counter zero. -/
theorem run_main : θ_run defs (onTc (τ := τ) (main (F := F))) (s₀ m ρ)
    (fun r => (∀ c : Dev nD, r.2.mem (c.tc.loc main_v26) = outF m c
        ∧ r.2.mem (c.tc.loc main_arg0) = m (c.tc.loc main_arg0) ∧ r.2.mem (c.tc.loc main_arg1) = m (c.tc.loc main_arg1))
      ∧ r.2.sem = fun _ => 0) :=
  Pipeline.PerCore.θ_run_regions_kit_sems (pcfgs (F := F)) adm (pdats m) () cells_inj EP defs₀ 𝒱₀ L lv m ρ main (chain m)
    (fun c Q => by
      rewrite [main_chain c, Pipeline.PerCore.Seg.run_eq_chain,
        show (chain m c).map Pipeline.PerCore.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      dsimp (config := { failIfUnchanged := false }) only
      exact .rfl)
    (fun c => by simp only [chain, Pipeline.PerCore.Seg.pipes_host, Pipeline.PerCore.Seg.pipes_region, Pipeline.PerCore.Seg.pipes_nil]; decide)
    (O₀ := O₀) (hL := L_of_ne) (G := G) (u₀ := u₀ (F := F))
    (hu₀ := u₀_dealt (F := F))
    (T₀ := first m) (Tₙ := ends m)
    (hch := fun c => ⟨.rfl, .rfl, .rfl, .rfl, .rfl, .rfl, .rfl, .rfl, end_of m c⟩)
    (hinit := init m ρ)
    (QY := fun c s => (s.mem (c.tc.loc main_v26) = outF m c ∧ s.mem (c.tc.loc main_arg0) = m (c.tc.loc main_arg0)
      ∧ s.mem (c.tc.loc main_arg1) = m (c.tc.loc main_arg1)) ∧ s.sem (barCell c) = 0)
    (hfin := fun c s' => by
      unfold ends
      iintro ⟨⟨Hx, Hw, Ho, Hb0⟩, HSI⟩
      icombine HSI Hx gives %hx
      icombine HSI Hw gives %hw
      icombine HSI Ho gives %ho
      icombine HSI Hb0 gives %hb
      imodintro
      isplitr
      · ipureintro
        exact ⟨⟨Buf.eq_of_forall_mem_univ ho, Buf.eq_of_forall_mem_univ hx, Buf.eq_of_forall_mem_univ hw⟩, by simpa using hb⟩
      iexact HSI)
    (hQ := fun s h hs => ⟨fun c => (h c).1,
      sem_eq_zero hs fun c sm hsm => by
        obtain rfl := unscoped_bar sm hsm
        exact (h c).2⟩)

end Cert.KernelIdealProof
-- ==== Proof.KernelIdeal.Value.lean ====
/- What the run's result is over the ideal numbers: device `c` ends with block `c` of the columns of the whole product. -/
module

public import proofs.«01_k».proof.Proof.KernelIdeal.Launch
public import proofs.«01_k».proof.Proof.Gen.ReferenceIdeal
public import Idealize.ShloMosaic.Lib.MatmulPlain
public import Idealize.ShloMosaic.Lib.Layout

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable (m : (ℓ : Loc nD τ sig) → Buf (Elt Ideal) ℓ)

/-! ## One tile's product -/

/-- A device's operands as arrays of extended reals. -/
abbrev xr (c : Dev nD) : (⟨2, ![1024, 8192]⟩ : Shape).Idx → EReal := xv m c
abbrev wr (c : Dev nD) : (⟨2, ![8192, 4096]⟩ : Shape).Idx → EReal := wv m c
/-- A tile's product and an accumulator at an element. -/
abbrev pr (c : Dev nD) (s : Fin 2) (k : Fin 8) (a : Fin 1024) (b : Fin 2048) : EReal := prodT m c s k (ix2 a b)
abbrev ar (c : Dev nD) (s : Fin 2) (a : Fin 1024) (b : Fin 2048) : EReal := part m c s 7 (ix2 a b)

theorem tile_inb (k : Fin 8) (l : Fin 1024) : 1024 * k.val + l.val < 8192 := by omega
theorem col_inb (g : Fin 2) (b : Fin 2048) : 2048 * g.val + b.val < 4096 := by omega

theorem read_x (k : Fin 8) (v : (main_arg0 : Ref sig .tc).ty.Contents (Elt Ideal)) (a l : Fin 1024) :
    (xtM k).view.read (Elt Ideal) v (ix2 a l) = v (ix2 a ⟨1024 * k.val + l.val, tile_inb k l⟩) := by
  refine congrArg v (funext fun j => ?_)
  match j with
  | ⟨0, _⟩ => exact Fin.ext (show 0 + 1 * a.val = a.val by omega)
  | ⟨1, _⟩ => exact Fin.ext (show 1024 * k.val + 1 * l.val = 1024 * k.val + l.val by omega)
theorem read_w (k : Fin 8) (g : Fin 2) (v : (main_arg1 : Ref sig .tc).ty.Contents (Elt Ideal)) (l : Fin 1024) (b : Fin 2048) :
    (wtM k g).view.read (Elt Ideal) v (ix2 l b) = v (ix2 ⟨1024 * k.val + l.val, tile_inb k l⟩ ⟨2048 * g.val + b.val, col_inb g b⟩) := by
  refine congrArg v (funext fun j => ?_)
  match j with
  | ⟨0, _⟩ => exact Fin.ext (show 1024 * k.val + 1 * l.val = 1024 * k.val + l.val by omega)
  | ⟨1, _⟩ => exact Fin.ext (show 2048 * g.val + 1 * b.val = 2048 * g.val + b.val by omega)

theorem dot_tile : dot_S1024x1024_S1024x2048_S1024x2048_1_0_0_1_n_n = DotDims.plain 1024 1024 2048 := rfl
theorem dot_whole : Cert.ReferenceIdeal.dot_S8192x8192_S8192x4096_S8192x4096_1_0_0_1_n_n = DotDims.plain 8192 8192 4096 := rfl

theorem prod_at (c : Dev nD) (s : Fin 2) (k : Fin 8) (a : Fin 1024) (b : Fin 2048) :
    pr m c s k a b = ∑ l : Fin 1024, xr m c (ix2 a ⟨1024 * k.val + l.val, tile_inb k l⟩)
      * wr m c (ix2 ⟨1024 * k.val + l.val, tile_inb k l⟩ ⟨2048 * (gsel c s).val + b.val, col_inb _ b⟩) := by
  unfold pr prodT
  rw [dot_tile]
  refine (Ideal.matmul_plain_apply none _ _ _ a b).trans ?_
  rw [show (constant S1024x2048 .f32 0#32 : FVec Ideal S1024x2048 .f32) (ix2 a b) = (0 : EReal) from Ideal.ofBits_zero_f32, zero_add]
  exact Finset.sum_congr rfl fun l _ => congrArg₂ (fun x y : EReal => x * y) (read_x k _ a l) (read_w k _ _ l b)

/-! ## The accumulator is the sum over the tiles, the tiles are the whole contraction -/

theorem part_at (c : Dev nD) (s : Fin 2) (a : Fin 1024) (b : Fin 2048) :
    ar m c s a b = ∑ k : Fin 8, pr m c s k a b := by
  rw [Fin.sum_univ_eight]
  rfl

theorem sum_tiles {M : Type} [AddCommMonoid M] (f : Fin 8192 → M) :
    ∑ k : Fin 8, ∑ l : Fin 1024, f ⟨1024 * k.val + l.val, tile_inb k l⟩ = ∑ q : Fin 8192, f q := by
  rw [← Fintype.sum_prod_type' (fun (k : Fin 8) (l : Fin 1024) => f ⟨1024 * k.val + l.val, tile_inb k l⟩)]
  exact Fintype.sum_equiv (finProdFinEquiv (m := 8) (n := 1024)) _ (fun q : Fin (8 * 1024) => f ⟨q.val, q.isLt⟩) fun x =>
    congrArg f (Fin.ext (Nat.add_comm _ _))

theorem half_col : ∀ p c : Dev nD, 2048 * (gsel p (half p c)).val + 512 * (place c).val = 512 * c.val := by decide

/-! ## The result -/

abbrev WX : Type := (⟨2, ![8192, 8192]⟩ : Shape).Idx → EReal
abbrev WW : Type := (⟨2, ![8192, 4096]⟩ : Shape).Idx → EReal

/-- The reference's product. -/
abbrev whole (X : WX) (W : WW) : FVec Ideal ⟨2, ![8192, 4096]⟩ .f32 :=
  Host.dotGeneral (F := Ideal) (φ₁ := .f32) (φ₂ := .f32) Cert.ReferenceIdeal.dot_S8192x8192_S8192x4096_S8192x4096_1_0_0_1_n_n none X W

theorem whole_at (X : WX) (W : WW) (r : Fin 8192) (q : Fin 4096) :
    whole X W (ix2 r q) = ∑ z : Fin 8192, X (ix2 r z) * W (ix2 z q) := by
  show Host.dotGeneral (F := Ideal) (φ₁ := .f32) (φ₂ := .f32) Cert.ReferenceIdeal.dot_S8192x8192_S8192x4096_S8192x4096_1_0_0_1_n_n none X W (ix2 r q) = _
  rw [dot_whole]
  refine (Ideal.matmul_plain_apply (φ₁ := .f32) (φ₂ := .f32) none X W (fun _ => (0 : EReal)) r q).trans ?_
  exact zero_add _

theorem result_at (X : WX) (W : WW)
    (hx : ∀ c : Dev nD, xv m c = Layout.block ⟨2, ![1024, 8192]⟩ ⟨2, ![8192, 8192]⟩ 0 8 c X) (hw : ∀ c : Dev nD, wv m c = W)
    (c : Dev nD) : outF m c = Layout.block ⟨2, ![8192, 512]⟩ ⟨2, ![8192, 4096]⟩ 1 8 c (whole X W) := by
  funext i
  obtain ⟨r, q, rfl⟩ : ∃ (r : Fin 8192) (q : Fin 512), i = ix2 r q := ⟨i 0, i 1, eq_ix2 i⟩
  have hr : r.val / 1024 < 8 := by omega
  have hcl : c.val < 8 := c.isLt
  have hcol : 512 * (place c).val + q.val < 2048 := by have := (place c).isLt; omega
  have hq : 512 * c.val + q.val < 4096 := by omega
  have hrhs : Layout.block ⟨2, ![8192, 512]⟩ ⟨2, ![8192, 4096]⟩ 1 8 c (whole X W) (by decide) (ix2 r q)
      = whole X W (ix2 r ⟨512 * c.val + q.val, hq⟩) := by
    refine congrArg (whole X W) (funext fun j => ?_)
    match j with
    | ⟨0, _⟩ => exact Fin.ext rfl
    | ⟨1, _⟩ => exact Fin.ext (show c.val * 512 + q.val = 512 * c.val + q.val by omega)
  refine Eq.trans ?_ hrhs.symm
  rw [whole_at]
  show ar m (⟨r.val / 1024, hr⟩ : Dev nD) (half ⟨r.val / 1024, hr⟩ c)
      ⟨r.val % 1024, Nat.mod_lt _ (by decide)⟩ ⟨512 * (place c).val + q.val, hcol⟩ = _
  rw [part_at, ← sum_tiles]
  refine Finset.sum_congr rfl fun k _ => ?_
  rw [prod_at]
  refine Finset.sum_congr rfl fun l _ => ?_
  rw [show xr m (⟨r.val / 1024, hr⟩ : Dev nD) = _ from hx _, show wr m (⟨r.val / 1024, hr⟩ : Dev nD) = _ from hw _]
  refine congrArg₂ (· * ·) (congrArg X (funext fun j => ?_)) (congrArg W (funext fun j => ?_))
  · match j with
    | ⟨0, _⟩ => exact Fin.ext (show r.val / 1024 * 1024 + r.val % 1024 = r.val by omega)
    | ⟨1, _⟩ => exact Fin.ext rfl
  · match j with
    | ⟨0, _⟩ => exact Fin.ext rfl
    | ⟨1, _⟩ =>
      refine Fin.ext ?_
      show 2048 * (gsel (⟨r.val / 1024, hr⟩ : Dev nD) (half ⟨r.val / 1024, hr⟩ c)).val + (512 * (place c).val + q.val) = 512 * c.val + q.val
      have := half_col ⟨r.val / 1024, hr⟩ c
      omega

end Cert.KernelIdealProof
-- ==== Proof.lean ====
/- The proof of the claims: the two runs of the kernel, the run of the reference, and their values compared. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel as printed runs, leaves its arguments alone and ends with every counter at zero. -/
theorem kernel_quiet : Cert.quiescent_Kernel := fun m g _ =>
  (θ_run _ _ _).mono (fun _ h => ⟨fun c => ⟨(h.1 c).2.1, (h.1 c).2.2⟩, h.2⟩) (Cert.KernelProof.run_main m g)

/-- The same at the ideal numbers. -/
theorem ideal_quiet : Cert.quiescent_KernelIdeal := fun m g _ =>
  (θ_run _ _ _).mono (fun _ h => ⟨fun c => ⟨(h.1 c).2.1, (h.1 c).2.2⟩, h.2⟩) (Cert.KernelIdealProof.run_main m g)

/-- The reference declares no semaphore. -/
theorem reference_quiet : Cert.quiescent_ReferenceIdeal := fun m g _ =>
  (θ_run _ _ _).mono (fun _ h => ⟨fun c => (h c).2, by
    funext x
    obtain ⟨_, s⟩ := x
    cases s <;> rename_i s <;> exact s.elim0⟩) (Cert.ReferenceIdeal.Value.run m g)

/-- Each device's result is its block of the columns of the reference's product. -/
theorem product_parts : Cert.algebraic_KernelIdeal_ReferenceIdeal := fun m g m' g' _ hin =>
  ⟨_, (θ_run _ _ _).mono (fun _ h c => ⟨(h.1 c).1.trans
        (Cert.KernelIdealProof.result_at m _ _ (fun c => (hin c).1) (fun c => (hin c).2) c), (h.1 c).2⟩) (Cert.KernelIdealProof.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  kernel_quiet, ideal_quiet, reference_quiet, trivial, product_parts⟩

end Cert.Proof

end
